-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5)
      ∧ r.2.mem ((c.tc : Thread Cert.Next.nD Cert.Next.τ).loc Cert.Next.main_arg6) = m ((c.tc : Thread Cert.Next.nD Cert.Next.τ).loc Cert.Next.main_arg6)
      ∧ r.2.mem ((c.tc : Thread Cert.Next.nD Cert.Next.τ).loc Cert.Next.main_arg7) = m ((c.tc : Thread Cert.Next.nD Cert.Next.τ).loc Cert.Next.main_arg7))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
      ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
      ∧ r.2.mem ((c.tc : Thread Cert.NextIdeal.nD Cert.NextIdeal.τ).loc Cert.NextIdeal.main_arg7) = m ((c.tc : Thread Cert.NextIdeal.nD Cert.NextIdeal.τ).loc Cert.NextIdeal.main_arg7))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5)
      ∧ r.2.mem ((c.tc : Thread Cert.NextRefIdeal.nD Cert.NextRefIdeal.τ).loc Cert.NextRefIdeal.main_arg6) = m ((c.tc : Thread Cert.NextRefIdeal.nD Cert.NextRefIdeal.τ).loc Cert.NextRefIdeal.main_arg6)
      ∧ r.2.mem ((c.tc : Thread Cert.NextRefIdeal.nD Cert.NextRefIdeal.τ).loc Cert.NextRefIdeal.main_arg7) = m ((c.tc : Thread Cert.NextRefIdeal.nD Cert.NextRefIdeal.τ).loc Cert.NextRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v24)) (v1 : (c : Dev Cert.ProjIdeal.nD) → Buf (Elt Ideal) ((c.tc : Thread Cert.ProjIdeal.nD Cert.ProjIdeal.τ).loc Cert.ProjIdeal.main_v25)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24) = v0 c
          ∧ r.2.mem ((c.tc : Thread Cert.ProjIdeal.nD Cert.ProjIdeal.τ).loc Cert.ProjIdeal.main_v25) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)
      ∧ m' ((c.tc : Thread Cert.NextRefIdeal.nD Cert.NextRefIdeal.τ).loc Cert.NextRefIdeal.main_arg6) = m ((c.tc : Thread Cert.NextIdeal.nD Cert.NextIdeal.τ).loc Cert.NextIdeal.main_arg6)
      ∧ m' ((c.tc : Thread Cert.NextRefIdeal.nD Cert.NextRefIdeal.τ).loc Cert.NextRefIdeal.main_arg7) = m ((c.tc : Thread Cert.NextIdeal.nD Cert.NextIdeal.τ).loc Cert.NextIdeal.main_arg7)) →
    ∃ (v0 : (c : Dev Cert.NextIdeal.nD) → Buf (Elt Ideal) ((c.tc : Thread Cert.NextIdeal.nD Cert.NextIdeal.τ).loc Cert.NextIdeal.main_v7_0)) (v1 : (c : Dev Cert.NextIdeal.nD) → Buf (Elt Ideal) ((c.tc : Thread Cert.NextIdeal.nD Cert.NextIdeal.τ).loc Cert.NextIdeal.main_v7_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v7_0) = v0 c
          ∧ r.2.mem ((c.tc : Thread Cert.NextIdeal.nD Cert.NextIdeal.τ).loc Cert.NextIdeal.main_v7_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5)
          ∧ r.2.mem ((c.tc : Thread Cert.NextIdeal.nD Cert.NextIdeal.τ).loc Cert.NextIdeal.main_arg6) = m ((c.tc : Thread Cert.NextIdeal.nD Cert.NextIdeal.τ).loc Cert.NextIdeal.main_arg6)
          ∧ r.2.mem ((c.tc : Thread Cert.NextIdeal.nD Cert.NextIdeal.τ).loc Cert.NextIdeal.main_arg7) = m ((c.tc : Thread Cert.NextIdeal.nD Cert.NextIdeal.τ).loc Cert.NextIdeal.main_arg7))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v36) = v0 c
          ∧ r.2.mem ((c.tc : Thread Cert.NextRefIdeal.nD Cert.NextRefIdeal.τ).loc Cert.NextRefIdeal.main_v38) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5)
          ∧ r.2.mem ((c.tc : Thread Cert.NextRefIdeal.nD Cert.NextRefIdeal.τ).loc Cert.NextRefIdeal.main_arg6) = m' ((c.tc : Thread Cert.NextRefIdeal.nD Cert.NextRefIdeal.τ).loc Cert.NextRefIdeal.main_arg6)
          ∧ r.2.mem ((c.tc : Thread Cert.NextRefIdeal.nD Cert.NextRefIdeal.τ).loc Cert.NextRefIdeal.main_arg7) = m' ((c.tc : Thread Cert.NextRefIdeal.nD Cert.NextRefIdeal.τ).loc Cert.NextRefIdeal.main_arg7))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMod : Cert.Mod.Facts) (hModIdeal : Cert.ModIdeal.Facts) (hModRefIdeal : Cert.ModRefIdeal.Facts) (hNext : Cert.Next.Facts) (hNextIdeal : Cert.NextIdeal.Facts) (hNextRefIdeal : Cert.NextRefIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Mod (hMod := hMod)
    ∧ quiescent_ModIdeal (hModIdeal := hModIdeal)
    ∧ quiescent_ModRefIdeal (hModRefIdeal := hModRefIdeal)
    ∧ quiescent_Next (hNext := hNext)
    ∧ quiescent_NextIdeal (hNextIdeal := hNextIdeal)
    ∧ quiescent_NextRefIdeal (hNextRefIdeal := hNextRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Mod_ModIdeal
    ∧ algebraic_ModIdeal_ModRefIdeal (hModIdeal := hModIdeal) (hModRefIdeal := hModRefIdeal)
    ∧ preserves_Next_NextIdeal
    ∧ algebraic_NextIdeal_NextRefIdeal (hNextIdeal := hNextIdeal) (hNextRefIdeal := hNextRefIdeal)
-- ==== Kernel.lean ====
abbrev S16384x1024 : Shape := ⟨2, ![16384, 1024]⟩
abbrev S16384x14336 : Shape := ⟨2, ![16384, 14336]⟩
abbrev S4x4096x2048 : Shape := ⟨3, ![4, 4096, 2048]⟩
abbrev S3x1024 : Shape := ⟨2, ![3, 1024]⟩
abbrev S2x1024x2048 : Shape := ⟨3, ![2, 1024, 2048]⟩
abbrev S2x2048x2048 : Shape := ⟨3, ![2, 2048, 2048]⟩
abbrev S4x2048 : Shape := ⟨2, ![4, 2048]⟩
abbrev S2048 : Shape := ⟨1, ![2048]⟩
abbrev S2x2048x8192 : Shape := ⟨3, ![2, 2048, 8192]⟩
abbrev S2x8192x2048 : Shape := ⟨3, ![2, 8192, 2048]⟩
abbrev S16384x2048 : Shape := ⟨2, ![16384, 2048]⟩
abbrev S4x1x2048 : Shape := ⟨3, ![4, 1, 2048]⟩
abbrev S1x2048 : Shape := ⟨2, ![1, 2048]⟩
abbrev S256x1024 : Shape := ⟨2, ![256, 1024]⟩
abbrev S16x1024 : Shape := ⟨2, ![16, 1024]⟩
abbrev S1x1024x2048 : Shape := ⟨3, ![1, 1024, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S1x1024 : Shape := ⟨2, ![1, 1024]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩
abbrev S16384x8192 : Shape := ⟨2, ![16384, 8192]⟩
abbrev S1x2048x8192 : Shape := ⟨3, ![1, 2048, 8192]⟩
abbrev S256x8192 : Shape := ⟨2, ![256, 8192]⟩
abbrev S2048x8192 : Shape := ⟨2, ![2048, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 38
  | .vmem => 57
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x14336, .bf16⟩
  | .hbm, ⟨3, _⟩ => ⟨S4x4096x2048, .f32⟩
  | .hbm, ⟨4, _⟩ => ⟨S3x1024, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x2048x2048, .f32⟩
  | .hbm, ⟨9, _⟩ => ⟨S4x2048, .f32⟩
  | .hbm, ⟨10, _⟩ => ⟨S2048, .f32⟩
  | .hbm, ⟨11, _⟩ => ⟨S4x2048, .f32⟩
  | .hbm, ⟨12, _⟩ => ⟨S4x2048, .f32⟩
  | .hbm, ⟨13, _⟩ => ⟨S2x2048x8192, .f32⟩
  | .hbm, ⟨14, _⟩ => ⟨S2x8192x2048, .f32⟩
  | .hbm, ⟨15, _⟩ => ⟨S4x2048, .f32⟩
  | .hbm, ⟨16, _⟩ => ⟨S2048, .f32⟩
  | .hbm, ⟨17, _⟩ => ⟨S2x1024x2048, .bf16⟩
  | .hbm, ⟨18, _⟩ => ⟨S2x1024x2048, .bf16⟩
  | .hbm, ⟨19, _⟩ => ⟨S2x1024x2048, .bf16⟩
  | .hbm, ⟨20, _⟩ => ⟨S2x2048x2048, .bf16⟩
  | .hbm, ⟨21, _⟩ => ⟨S2x2048x8192, .bf16⟩
  | .hbm, ⟨22, _⟩ => ⟨S2x8192x2048, .bf16⟩
  | .hbm, ⟨23, _⟩ => ⟨S16384x2048, .f32⟩
  | .hbm, ⟨24, _⟩ => ⟨S4x1x2048, .f32⟩
  | .hbm, ⟨25, _⟩ => ⟨S1x2048, .f32⟩
  | .hbm, ⟨26, _⟩ => ⟨S4x1x2048, .f32⟩
  | .hbm, ⟨27, _⟩ => ⟨S4x1x2048, .f32⟩
  | .hbm, ⟨28, _⟩ => ⟨S16384x2048, .f32⟩
  | .hbm, ⟨29, _⟩ => ⟨S16384x2048, .bf16⟩
  | .hbm, ⟨30, _⟩ => ⟨S16384x8192, .bf16⟩
  | .hbm, ⟨31, _⟩ => ⟨S_, .f32⟩
  | .hbm, ⟨32, _⟩ => ⟨S4x2048, .f32⟩
  | .hbm, ⟨33, _⟩ => ⟨S4x1x2048, .f32⟩
  | .hbm, ⟨34, _⟩ => ⟨S1x2048, .f32⟩
  | .hbm, ⟨35, _⟩ => ⟨S4x1x2048, .f32⟩
  | .hbm, ⟨36, _⟩ => ⟨S4x1x2048, .f32⟩
  | .hbm, ⟨37, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S3x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S1x2048x2048, .bf16⟩
  | .local _ .vmem, ⟨25, _⟩ => ⟨S256x2048, .f32⟩
  | .local _ .vmem, ⟨26, _⟩ => ⟨S256x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x2048, .f32⟩
  | .local _ .vmem, ⟨30, _⟩ => ⟨S1x1x2048, .f32⟩
  | .local _ .vmem, ⟨31, _⟩ => ⟨S1x1x2048, .f32⟩
  | .local _ .vmem, ⟨32, _⟩ => ⟨S1x1x2048, .f32⟩
  | .local _ .vmem, ⟨33, _⟩ => ⟨S1x1x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | .local _ .vmem, ⟨40, _⟩ => ⟨S1x2048x8192, .bf16⟩
  | .local _ .vmem, ⟨41, _⟩ => ⟨S256x8192, .bf16⟩
  | .local _ .vmem, ⟨42, _⟩ => ⟨S256x8192, .bf16⟩
  | .local _ .vmem, ⟨43, _⟩ => ⟨S256x8192, .bf16⟩
  | .local _ .vmem, ⟨44, _⟩ => ⟨S256x8192, .bf16⟩
  | .local _ .vmem, ⟨45, _⟩ => ⟨S1x8192x2048, .bf16⟩
  | .local _ .vmem, ⟨46, _⟩ => ⟨S256x2048, .f32⟩
  | .local _ .vmem, ⟨47, _⟩ => ⟨S256x2048, .f32⟩
  | .local _ .vmem, ⟨48, _⟩ => ⟨S1x1x2048, .f32⟩
  | .local _ .vmem, ⟨49, _⟩ => ⟨S1x1x2048, .f32⟩
  | .local _ .vmem, ⟨50, _⟩ => ⟨S1x2048, .f32⟩
  | .local _ .vmem, ⟨51, _⟩ => ⟨S1x1x2048, .f32⟩
  | .local _ .vmem, ⟨52, _⟩ => ⟨S1x1x2048, .f32⟩
  | .local _ .vmem, ⟨53, _⟩ => ⟨S1x1x2048, .f32⟩
  | .local _ .vmem, ⟨54, _⟩ => ⟨S1x1x2048, .f32⟩
  | .local _ .vmem, ⟨55, _⟩ => ⟨S256x2048, .f32⟩
  | .local _ .vmem, ⟨56, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc1_stg0_0 : Ref sig .tc := ⟨.vmem, 38, rfl⟩
abbrev cc1_stg0_1 : Ref sig .tc := ⟨.vmem, 39, rfl⟩
abbrev cc1_stg1_0 : Ref sig .tc := ⟨.vmem, 40, rfl⟩
abbrev cc1_stg2_0 : Ref sig .tc := ⟨.vmem, 41, rfl⟩
abbrev cc1_stg2_1 : Ref sig .tc := ⟨.vmem, 42, rfl⟩
abbrev cc2_stg0_0 : Ref sig .tc := ⟨.vmem, 43, rfl⟩
abbrev cc2_stg0_1 : Ref sig .tc := ⟨.vmem, 44, rfl⟩
abbrev cc2_stg1_0 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg5_1 : Ref sig .tc := ⟨.vmem, 52, rfl⟩
abbrev cc2_stg6_0 : Ref sig .tc := ⟨.vmem, 53, rfl⟩
abbrev cc2_stg6_1 : Ref sig .tc := ⟨.vmem, 54, rfl⟩
abbrev cc2_stg7_0 : Ref sig .tc := ⟨.vmem, 55, rfl⟩
abbrev cc2_stg7_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc1_sem0_0 : DmaSem sig := 38
abbrev cc1_sem0_1 : DmaSem sig := 39
abbrev cc1_sem1_0 : DmaSem sig := 40
abbrev cc1_sem2_0 : DmaSem sig := 41
abbrev cc1_sem2_1 : DmaSem sig := 42
abbrev cc2_sem0_0 : DmaSem sig := 43
abbrev cc2_sem0_1 : DmaSem sig := 44
abbrev cc2_sem1_0 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem5_0 : DmaSem sig := 51
abbrev cc2_sem5_1 : DmaSem sig := 52
abbrev cc2_sem6_0 : DmaSem sig := 53
abbrev cc2_sem6_1 : DmaSem sig := 54
abbrev cc2_sem7_0 : DmaSem sig := 55
abbrev cc2_sem7_1 : DmaSem sig := 56

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_12 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_13 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_19 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x1x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨2, ![64, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x2048x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x8192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_6 (i : grid2.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S16384x1024 : Shape := ⟨2, ![16384, 1024]⟩
abbrev S16384x14336 : Shape := ⟨2, ![16384, 14336]⟩
abbrev S4x4096x2048 : Shape := ⟨3, ![4, 4096, 2048]⟩
abbrev S3x1024 : Shape := ⟨2, ![3, 1024]⟩
abbrev S2x1024x2048 : Shape := ⟨3, ![2, 1024, 2048]⟩
abbrev S2x2048x2048 : Shape := ⟨3, ![2, 2048, 2048]⟩
abbrev S4x2048 : Shape := ⟨2, ![4, 2048]⟩
abbrev S2048 : Shape := ⟨1, ![2048]⟩
abbrev S2x2048x8192 : Shape := ⟨3, ![2, 2048, 8192]⟩
abbrev S2x8192x2048 : Shape := ⟨3, ![2, 8192, 2048]⟩
abbrev S4x4096x14336 : Shape := ⟨3, ![4, 4096, 14336]⟩
abbrev S4x4096x1024 : Shape := ⟨3, ![4, 4096, 1024]⟩
abbrev S4x4096x6144 : Shape := ⟨3, ![4, 4096, 6144]⟩
abbrev S4x1x2048 : Shape := ⟨3, ![4, 1, 2048]⟩
abbrev S1x1024x2048 : Shape := ⟨3, ![1, 1024, 2048]⟩
abbrev S1024x2048 : Shape := ⟨2, ![1024, 2048]⟩
abbrev S_ : Shape := ⟨0, ![]⟩
abbrev S4x4098x1024 : Shape := ⟨3, ![4, 4098, 1024]⟩
abbrev S1x1024 : Shape := ⟨2, ![1, 1024]⟩
abbrev S1024 : Shape := ⟨1, ![1024]⟩
abbrev S1x1x1024 : Shape := ⟨3, ![1, 1, 1024]⟩
abbrev S1x2048x2048 : Shape := ⟨3, ![1, 2048, 2048]⟩
abbrev S2048x2048 : Shape := ⟨2, ![2048, 2048]⟩
abbrev S4x4096 : Shape := ⟨2, ![4, 4096]⟩
abbrev S4x4096x1 : Shape := ⟨3, ![4, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S4x4096x8192 : Shape := ⟨3, ![4, 4096, 8192]⟩
abbrev S16384x2048 : Shape := ⟨2, ![16384, 2048]⟩

abbrev nBuf : Space → Nat
  | .hbm => 143
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x14336, .bf16⟩
  | 3 => ⟨S4x4096x2048, .f32⟩
  | 4 => ⟨S3x1024, .f32⟩
  | 5 => ⟨S2x1024x2048, .f32⟩
  | 6 => ⟨S2x1024x2048, .f32⟩
  | 7 => ⟨S2x1024x2048, .f32⟩
  | 8 => ⟨S2x2048x2048, .f32⟩
  | 9 => ⟨S4x2048, .f32⟩
  | 10 => ⟨S2048, .f32⟩
  | 11 => ⟨S4x2048, .f32⟩
  | 12 => ⟨S4x2048, .f32⟩
  | 13 => ⟨S2x2048x8192, .f32⟩
  | 14 => ⟨S2x8192x2048, .f32⟩
  | 15 => ⟨S4x2048, .f32⟩
  | 16 => ⟨S2048, .f32⟩
  | 17 => ⟨S16384x14336, .f32⟩
  | 18 => ⟨S4x4096x14336, .f32⟩
  | 19 => ⟨S4x4096x1024, .f32⟩
  | 20 => ⟨S4x4096x1024, .f32⟩
  | 21 => ⟨S4x4096x1024, .f32⟩
  | 22 => ⟨S4x4096x6144, .f32⟩
  | 23 => ⟨S4x1x2048, .f32⟩
  | 24 => ⟨S4x1x2048, .f32⟩
  | 25 => ⟨S4x1x2048, .f32⟩
  | 26 => ⟨S4x1x2048, .f32⟩
  | 27 => ⟨S16384x1024, .f32⟩
  | 28 => ⟨S4x4096x1024, .f32⟩
  | 29 => ⟨S1x1024x2048, .f32⟩
  | 30 => ⟨S1024x2048, .f32⟩
  | 31 => ⟨S4x4096x2048, .f32⟩
  | 32 => ⟨S4x4096x1024, .f32⟩
  | 33 => ⟨S_, .i32⟩
  | 34 => ⟨S_, .f32⟩
  | 35 => ⟨S4x4098x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S_, .f32⟩
  | 43 => ⟨S4x4096x1024, .f32⟩
  | 44 => ⟨S4x4096x1024, .f32⟩
  | 45 => ⟨S4x4096x1024, .f32⟩
  | 46 => ⟨S1x1024, .f32⟩
  | 47 => ⟨S1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S1x1024x2048, .f32⟩
  | 61 => ⟨S1024x2048, .f32⟩
  | 62 => ⟨S4x4096x2048, .f32⟩
  | 63 => ⟨S16384x1024, .f32⟩
  | 64 => ⟨S4x4096x1024, .f32⟩
  | 65 => ⟨S1x1024x2048, .f32⟩
  | 66 => ⟨S1024x2048, .f32⟩
  | 67 => ⟨S4x4096x2048, .f32⟩
  | 68 => ⟨S4x4096x6144, .f32⟩
  | 69 => ⟨S4x4096x6144, .f32⟩
  | 70 => ⟨S_, .f32⟩
  | 71 => ⟨S4x4096x6144, .f32⟩
  | 72 => ⟨S4x4096x6144, .f32⟩
  | 73 => ⟨S_, .f32⟩
  | 74 => ⟨S4x4096x6144, .f32⟩
  | 75 => ⟨S4x4096x6144, .f32⟩
  | 76 => ⟨S4x4096x2048, .f32⟩
  | 77 => ⟨S4x4096x2048, .f32⟩
  | 78 => ⟨S4x4096x2048, .f32⟩
  | 79 => ⟨S4x4096x2048, .f32⟩
  | 80 => ⟨S4x4096x2048, .f32⟩
  | 81 => ⟨S4x4096x2048, .f32⟩
  | 82 => ⟨S4x4096x2048, .f32⟩
  | 83 => ⟨S4x4096x2048, .f32⟩
  | 84 => ⟨S1x2048x2048, .f32⟩
  | 85 => ⟨S2048x2048, .f32⟩
  | 86 => ⟨S4x4096x2048, .f32⟩
  | 87 => ⟨S4x4096x2048, .f32⟩
  | 88 => ⟨S4x4096x2048, .f32⟩
  | 89 => ⟨S4x4096x2048, .f32⟩
  | 90 => ⟨S4x4096x2048, .f32⟩
  | 91 => ⟨S_, .f32⟩
  | 92 => ⟨S4x4096, .f32⟩
  | 93 => ⟨S4x4096x1, .f32⟩
  | 94 => ⟨S_, .f32⟩
  | 95 => ⟨S4x4096x1, .f32⟩
  | 96 => ⟨S4x4096x1, .f32⟩
  | 97 => ⟨S_, .f32⟩
  | 98 => ⟨S4x4096x1, .f32⟩
  | 99 => ⟨S4x4096x1, .f32⟩
  | 100 => ⟨S4x4096x1, .f32⟩
  | 101 => ⟨S4x4096x2048, .f32⟩
  | 102 => ⟨S4x4096x2048, .f32⟩
  | 103 => ⟨S1x1x2048, .f32⟩
  | 104 => ⟨S4x4096x2048, .f32⟩
  | 105 => ⟨S4x4096x2048, .f32⟩
  | 106 => ⟨S_, .f32⟩
  | 107 => ⟨S4x1x2048, .f32⟩
  | 108 => ⟨S4x1x2048, .f32⟩
  | 109 => ⟨S4x4096x2048, .f32⟩
  | 110 => ⟨S4x4096x2048, .f32⟩
  | 111 => ⟨S4x4096x2048, .f32⟩
  | 112 => ⟨S4x4096x2048, .f32⟩
  | 113 => ⟨S1x2048x8192, .f32⟩
  | 114 => ⟨S2048x8192, .f32⟩
  | 115 => ⟨S1x8192x2048, .f32⟩
  | 116 => ⟨S8192x2048, .f32⟩
  | 117 => ⟨S4x4096x8192, .f32⟩
  | 118 => ⟨S_, .f32⟩
  | 119 => ⟨S4x4096x8192, .f32⟩
  | 120 => ⟨S4x4096x8192, .f32⟩
  | 121 => ⟨S4x4096x8192, .f32⟩
  | 122 => ⟨S4x4096x2048, .f32⟩
  | 123 => ⟨S4x4096x2048, .f32⟩
  | 124 => ⟨S4x4096x2048, .f32⟩
  | 125 => ⟨S4x4096x2048, .f32⟩
  | 126 => ⟨S4x4096x2048, .f32⟩
  | 127 => ⟨S_, .f32⟩
  | _ => ⟨S16384x1024, .bf16⟩

abbrev hbmTy0_1 (i : Nat) : BufTy := match i % 128 with
  | 0 => ⟨S4x4096, .f32⟩
  | 1 => ⟨S4x4096x1, .f32⟩
  | 2 => ⟨S_, .f32⟩
  | 3 => ⟨S4x4096x1, .f32⟩
  | 4 => ⟨S4x4096x1, .f32⟩
  | 5 => ⟨S_, .f32⟩
  | 6 => ⟨S4x4096x1, .f32⟩
  | 7 => ⟨S4x4096x1, .f32⟩
  | 8 => ⟨S4x4096x1, .f32⟩
  | 9 => ⟨S4x4096x2048, .f32⟩
  | 10 => ⟨S4x4096x2048, .f32⟩
  | 11 => ⟨S1x1x2048, .f32⟩
  | 12 => ⟨S4x4096x2048, .f32⟩
  | 13 => ⟨S4x4096x2048, .f32⟩
  | 14 => ⟨S16384x2048, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_0 : Ref sig .tc := ⟨.hbm, 70, rfl⟩
abbrev main_v50 : Ref sig .tc := ⟨.hbm, 71, rfl⟩
abbrev main_v51 : Ref sig .tc := ⟨.hbm, 72, rfl⟩
abbrev main_cst_1 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_2 : Ref sig .tc := ⟨.hbm, 91, rfl⟩
abbrev main_v69 : Ref sig .tc := ⟨.hbm, 92, rfl⟩
abbrev main_v70 : Ref sig .tc := ⟨.hbm, 93, rfl⟩
abbrev main_cst_3 : Ref sig .tc := ⟨.hbm, 94, rfl⟩
abbrev main_v71 : Ref sig .tc := ⟨.hbm, 95, rfl⟩
abbrev main_v72 : Ref sig .tc := ⟨.hbm, 96, rfl⟩
abbrev main_cst_4 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_5 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call1_cst : Ref sig .tc := ⟨.hbm, 118, rfl⟩
abbrev main_call1_v0 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_6 : Ref sig .tc := ⟨.hbm, 127, rfl⟩
abbrev main_v99 : Ref sig .tc := ⟨.hbm, 128, rfl⟩
abbrev main_v100 : Ref sig .tc := ⟨.hbm, 129, rfl⟩
abbrev main_cst_7 : Ref sig .tc := ⟨.hbm, 130, rfl⟩
abbrev main_v101 : Ref sig .tc := ⟨.hbm, 131, rfl⟩
abbrev main_v102 : Ref sig .tc := ⟨.hbm, 132, rfl⟩
abbrev main_cst_8 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S4x2048 : Shape := ⟨2, ![4, 2048]⟩
abbrev S2x2048x15432 : Shape := ⟨3, ![2, 2048, 15432]⟩
abbrev S2x2048x1024 : Shape := ⟨3, ![2, 2048, 1024]⟩
abbrev S2x2048x256 : Shape := ⟨3, ![2, 2048, 256]⟩
abbrev S2x2048x512 : Shape := ⟨3, ![2, 2048, 512]⟩
abbrev S2x2048x6144 : Shape := ⟨3, ![2, 2048, 6144]⟩
abbrev S2x2048x14336 : Shape := ⟨3, ![2, 2048, 14336]⟩
abbrev S2x2048x64 : Shape := ⟨3, ![2, 2048, 64]⟩
abbrev S2x2048x8 : Shape := ⟨3, ![2, 2048, 8]⟩
abbrev S2x2048x1096 : Shape := ⟨3, ![2, 2048, 1096]⟩
abbrev S_ : Shape := ⟨0, ![]⟩
abbrev S2x2048x1152 : Shape := ⟨3, ![2, 2048, 1152]⟩
abbrev S16384x2048 : Shape := ⟨2, ![16384, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S16384x14336 : Shape := ⟨2, ![16384, 14336]⟩
abbrev S1024x2048 : Shape := ⟨2, ![1024, 2048]⟩
abbrev S1x2048x2048 : Shape := ⟨3, ![1, 2048, 2048]⟩
abbrev S2048x2048 : Shape := ⟨2, ![2048, 2048]⟩
abbrev S16384x1152 : Shape := ⟨2, ![16384, 1152]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 33
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x15432, .f32⟩
  | .hbm, ⟨5, _⟩ => ⟨S2x2048x1024, .f32⟩
  | .hbm, ⟨6, _⟩ => ⟨S2x2048x256, .f32⟩
  | .hbm, ⟨7, _⟩ => ⟨S2x2048x256, .f32⟩
  | .hbm, ⟨8, _⟩ => ⟨S2x2048x512, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x6144, .f32⟩
  | .hbm, ⟨16, _⟩ => ⟨S2x2048x14336, .f32⟩
  | .hbm, ⟨17, _⟩ => ⟨S2x2048x14336, .bf16⟩
  | .hbm, ⟨18, _⟩ => ⟨S2x2048x1024, .f32⟩
  | .hbm, ⟨19, _⟩ => ⟨S2x2048x64, .f32⟩
  | .hbm, ⟨20, _⟩ => ⟨S2x2048x8, .f32⟩
  | .hbm, ⟨21, _⟩ => ⟨S2x2048x1096, .f32⟩
  | .hbm, ⟨22, _⟩ => ⟨S_, .i32⟩
  | .hbm, ⟨23, _⟩ => ⟨S_, .f32⟩
  | .hbm, ⟨24, _⟩ => ⟨S2x2048x1152, .f32⟩
  | .hbm, ⟨25, _⟩ => ⟨S2x2048x1152, .bf16⟩
  | .hbm, ⟨26, _⟩ => ⟨S16384x2048, .f32⟩
  | .hbm, ⟨27, _⟩ => ⟨S1x2048, .f32⟩
  | .hbm, ⟨28, _⟩ => ⟨S4x1x2048, .f32⟩
  | .hbm, ⟨29, _⟩ => ⟨S4x1x2048, .f32⟩
  | .hbm, ⟨30, _⟩ => ⟨S16384x2048, .bf16⟩
  | .hbm, ⟨31, _⟩ => ⟨S16384x14336, .bf16⟩
  | .hbm, ⟨32, _⟩ => ⟨S16384x1152, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1x2048x2048, .bf16⟩
  | .local _ .vmem, ⟨12, _⟩ => ⟨S1x2048x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1x2048x1152, .bf16⟩
  | .local _ .vmem, ⟨18, _⟩ => ⟨S1024x1152, .f32⟩
  | .local _ .vmem, ⟨19, _⟩ => ⟨S1024x1152, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x2048x1152 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1152 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ProjRefIdeal.lean ====
abbrev S4x4096x2048 : Shape := ⟨3, ![4, 4096, 2048]⟩
abbrev S2048 : Shape := ⟨1, ![2048]⟩
abbrev S4x2048 : Shape := ⟨2, ![4, 2048]⟩
abbrev S2x2048x15432 : Shape := ⟨3, ![2, 2048, 15432]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S1x2048x15432 : Shape := ⟨3, ![1, 2048, 15432]⟩
abbrev S2048x15432 : Shape := ⟨2, ![2048, 15432]⟩
abbrev S4x4096x15432 : Shape := ⟨3, ![4, 4096, 15432]⟩
abbrev S16384x15432 : Shape := ⟨2, ![16384, 15432]⟩
abbrev S16384x2048 : Shape := ⟨2, ![16384, 2048]⟩
abbrev S16384x4096 : Shape := ⟨2, ![16384, 4096]⟩
abbrev S16384x8192 : Shape := ⟨2, ![16384, 8192]⟩
abbrev S16384x14336 : Shape := ⟨2, ![16384, 14336]⟩
abbrev S16384x1024 : Shape := ⟨2, ![16384, 1024]⟩
abbrev S16384x72 : Shape := ⟨2, ![16384, 72]⟩
abbrev S16384x56 : Shape := ⟨2, ![16384, 56]⟩
abbrev S16384x1152 : Shape := ⟨2, ![16384, 1152]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x15432, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S1x2048x15432, .f32⟩
  | .hbm, ⟨31, _⟩ => ⟨S2048x15432, .f32⟩
  | .hbm, ⟨32, _⟩ => ⟨S4x4096x15432, .f32⟩
  | .hbm, ⟨33, _⟩ => ⟨S16384x15432, .f32⟩
  | .hbm, ⟨34, _⟩ => ⟨S16384x2048, .f32⟩
  | .hbm, ⟨35, _⟩ => ⟨S16384x4096, .f32⟩
  | .hbm, ⟨36, _⟩ => ⟨S16384x8192, .f32⟩
  | .hbm, ⟨37, _⟩ => ⟨S16384x14336, .f32⟩
  | .hbm, ⟨38, _⟩ => ⟨S16384x1024, .f32⟩
  | .hbm, ⟨39, _⟩ => ⟨S16384x72, .f32⟩
  | .hbm, ⟨40, _⟩ => ⟨S_, .f32⟩
  | .hbm, ⟨41, _⟩ => ⟨S16384x56, .f32⟩
  | .hbm, ⟨42, _⟩ => ⟨S16384x1152, .f32⟩
  | .hbm, ⟨43, _⟩ => ⟨S16384x14336, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Mod.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S2x4x12288 : Shape := ⟨3, ![2, 4, 12288]⟩

abbrev nBuf : Space → Nat
  | .hbm => 9
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2x1x12288, .f32⟩
  | .hbm, ⟨7, _⟩ => ⟨S2x8x12288, .f32⟩
  | .hbm, ⟨8, _⟩ => ⟨S2x4x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S4x12288 : Shape := ⟨2, ![4, 12288]⟩
abbrev S1x12288 : Shape := ⟨2, ![1, 12288]⟩
abbrev S12288 : Shape := ⟨1, ![12288]⟩
abbrev S1x4x12288 : Shape := ⟨3, ![1, 4, 12288]⟩
abbrev S2x4x12288 : Shape := ⟨3, ![2, 4, 12288]⟩

abbrev nBuf : Space → Nat
  | .hbm => 31
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048x12288, .f32⟩
  | .hbm, ⟨13, _⟩ => ⟨S2048x12288, .f32⟩
  | .hbm, ⟨14, _⟩ => ⟨S4x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S4x12288, .f32⟩
  | .hbm, ⟨19, _⟩ => ⟨S4x12288, .f32⟩
  | .hbm, ⟨20, _⟩ => ⟨S1x2048x12288, .f32⟩
  | .hbm, ⟨21, _⟩ => ⟨S2048x12288, .f32⟩
  | .hbm, ⟨22, _⟩ => ⟨S4x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S4x12288, .f32⟩
  | .hbm, ⟨27, _⟩ => ⟨S4x12288, .f32⟩
  | .hbm, ⟨28, _⟩ => ⟨S1x4x12288, .f32⟩
  | .hbm, ⟨29, _⟩ => ⟨S1x4x12288, .f32⟩
  | .hbm, ⟨30, _⟩ => ⟨S2x4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Next.lean ====
abbrev S16384x2048 : Shape := ⟨2, ![16384, 2048]⟩
abbrev S2x2048x8192 : Shape := ⟨3, ![2, 2048, 8192]⟩
abbrev S2x8192x2048 : Shape := ⟨3, ![2, 8192, 2048]⟩
abbrev S4x2048 : Shape := ⟨2, ![4, 2048]⟩
abbrev S2048 : Shape := ⟨1, ![2048]⟩
abbrev S16384x8192 : Shape := ⟨2, ![16384, 8192]⟩
abbrev S256x2048 : Shape := ⟨2, ![256, 2048]⟩
abbrev S1x2048x8192 : Shape := ⟨3, ![1, 2048, 8192]⟩
abbrev S256x8192 : Shape := ⟨2, ![256, 8192]⟩
abbrev S2048x8192 : Shape := ⟨2, ![2048, 8192]⟩
abbrev S4x1x2048 : Shape := ⟨3, ![4, 1, 2048]⟩
abbrev S1x2048 : Shape := ⟨2, ![1, 2048]⟩
abbrev S1x8192x2048 : Shape := ⟨3, ![1, 8192, 2048]⟩
abbrev S1x1x2048 : Shape := ⟨3, ![1, 1, 2048]⟩
abbrev S8192x2048 : Shape := ⟨2, ![8192, 2048]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x8192, .f32⟩
  | .hbm, ⟨3, _⟩ => ⟨S2x8192x2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S2x2048x8192, .bf16⟩
  | .hbm, ⟨9, _⟩ => ⟨S2x8192x2048, .bf16⟩
  | .hbm, ⟨10, _⟩ => ⟨S16384x8192, .bf16⟩
  | .hbm, ⟨11, _⟩ => ⟨S4x1x2048, .f32⟩
  | .hbm, ⟨12, _⟩ => ⟨S1x2048, .f32⟩
  | .hbm, ⟨13, _⟩ => ⟨S4x1x2048, .f32⟩
  | .hbm, ⟨14, _⟩ => ⟨S4x1x2048, .f32⟩
  | .hbm, ⟨15, _⟩ => ⟨S16384x2048, .f32⟩
  | .hbm, ⟨16, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | .local _ .vmem, ⟨6, _⟩ => ⟨S256x8192, .bf16⟩
  | .local _ .vmem, ⟨7, _⟩ => ⟨S1x8192x2048, .bf16⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_6 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== NextRefIdeal.lean ====
abbrev S16384x2048 : Shape := ⟨2, ![16384, 2048]⟩
abbrev S2x2048x8192 : Shape := ⟨3, ![2, 2048, 8192]⟩
abbrev S2x8192x2048 : Shape := ⟨3, ![2, 8192, 2048]⟩
abbrev S4x2048 : Shape := ⟨2, ![4, 2048]⟩
abbrev S2048 : Shape := ⟨1, ![2048]⟩
abbrev S4x4096x2048 : Shape := ⟨3, ![4, 4096, 2048]⟩
abbrev S4x1x2048 : Shape := ⟨3, ![4, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S4x4096x8192 : Shape := ⟨3, ![4, 4096, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2x2048x8192, .f32⟩
  | .hbm, ⟨3, _⟩ => ⟨S2x8192x2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S4x4096x2048, .f32⟩
  | .hbm, ⟨9, _⟩ => ⟨S16384x2048, .f32⟩
  | .hbm, ⟨10, _⟩ => ⟨S4x4096x2048, .f32⟩
  | .hbm, ⟨11, _⟩ => ⟨S4x1x2048, .f32⟩
  | .hbm, ⟨12, _⟩ => ⟨S1x2048x8192, .f32⟩
  | .hbm, ⟨13, _⟩ => ⟨S2048x8192, .f32⟩
  | .hbm, ⟨14, _⟩ => ⟨S1x8192x2048, .f32⟩
  | .hbm, ⟨15, _⟩ => ⟨S8192x2048, .f32⟩
  | .hbm, ⟨16, _⟩ => ⟨S4x4096x8192, .f32⟩
  | .hbm, ⟨17, _⟩ => ⟨S_, .f32⟩
  | .hbm, ⟨18, _⟩ => ⟨S4x4096x8192, .f32⟩
  | .hbm, ⟨19, _⟩ => ⟨S4x4096x8192, .f32⟩
  | .hbm, ⟨20, _⟩ => ⟨S4x4096x8192, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S4x1x2048, .f32⟩
  | .hbm, ⟨42, _⟩ => ⟨S_, .f32⟩
  | .hbm, ⟨43, _⟩ => ⟨S4x1x2048, .f32⟩
  | .hbm, ⟨44, _⟩ => ⟨S4x1x2048, .f32⟩
  | .hbm, ⟨45, _⟩ => ⟨S4x4096x2048, .f32⟩
  | .hbm, ⟨46, _⟩ => ⟨S4x4096x2048, .f32⟩
  | .hbm, ⟨47, _⟩ => ⟨S4x1x2048, .f32⟩
  | .hbm, ⟨48, _⟩ => ⟨S4x4096x2048, .f32⟩
  | .hbm, ⟨49, _⟩ => ⟨S4x4096x2048, .f32⟩
  | .hbm, ⟨50, _⟩ => ⟨S16384x2048, .f32⟩
  | .hbm, ⟨51, _⟩ => ⟨S16384x2048, .f32⟩
  | .hbm, ⟨52, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.MergeConv.lean ====
module

public import proofs.«01_k».proof.Proof.Gen.KernelIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem

namespace Cert.KernelIdeal.Value

open Cert.KernelIdeal Cert.KernelIdeal.Gen

/-- A choice by a decided bit. -/
theorem select_ite {α : Type} (p : Prop) [Decidable p] (a b : α) : Scalar.select (if p then 1#1 else 0#1) a b = if p then a else b := by
  split_ifs <;> rfl

/-- The word comparison of a row's number with zero and with one. -/
theorem row_zero (y : Fin 256) : IntOp.cmpi CmpIPredicate.eq (BitVec.ofNat 32 y.val) 0#32 = if y.val = 0 then 1#1 else 0#1 := by
  revert y; decide +kernel
theorem row_one (y : Fin 256) : IntOp.cmpi CmpIPredicate.eq (BitVec.ofNat 32 y.val) 1#32 = if y.val = 1 then 1#1 else 0#1 := by
  revert y; decide +kernel

/-- The kernel's test that a tile of 256 rows begins a sequence of 4096. -/
theorem at_start (n : Fin 64) : (Scalar.cmpi CmpIPredicate.eq (Scalar.select (Scalar.andi (Scalar.xori (Scalar.cmpi CmpIPredicate.slt
      (Scalar.remsi (Scalar.muli (BitVec.ofNat 32 n.val) 256#32) (Scalar.select (Scalar.cmpi CmpIPredicate.eq 4096#32 0#32) 1#32 4096#32)) 0#32)
      (Scalar.cmpi CmpIPredicate.slt (Scalar.select (Scalar.cmpi CmpIPredicate.eq 4096#32 0#32) 1#32 4096#32) 0#32))
      (Scalar.cmpi CmpIPredicate.ne (Scalar.remsi (Scalar.muli (BitVec.ofNat 32 n.val) 256#32)
        (Scalar.select (Scalar.cmpi CmpIPredicate.eq 4096#32 0#32) 1#32 4096#32)) 0#32))
      (Scalar.addi (Scalar.remsi (Scalar.muli (BitVec.ofNat 32 n.val) 256#32)
        (Scalar.select (Scalar.cmpi CmpIPredicate.eq 4096#32 0#32) 1#32 4096#32))
        (Scalar.select (Scalar.cmpi CmpIPredicate.eq 4096#32 0#32) 1#32 4096#32))
      (Scalar.remsi (Scalar.muli (BitVec.ofNat 32 n.val) 256#32) (Scalar.select (Scalar.cmpi CmpIPredicate.eq 4096#32 0#32) 1#32 4096#32))) 0#32)
    = if n.val % 16 = 0 then 1#1 else 0#1 := by
  revert n; decide +kernel

/-- The row before (`d = 1`) or two before (`d = 2`) a tile's row, in the tile by rotation. -/
abbrev rot (y : Fin 256) (d : ℕ) : Fin 256 := ⟨(y.val + 256 - d) % 256, Nat.mod_lt _ (by decide)⟩

/-- One tile of the gated short convolution: the products of the tile, rows before the tile from the halo's last two rows, zero
where the tile begins a sequence. -/
theorem conv_pay (i : grid0.Coords) (x1 x2 x3 : Vec Ideal S256x1024 .bf16) (x4 x5 : Vec Ideal S16x1024 .bf16) (x6 : Vec Ideal S3x1024 .f32)
    (y : Fin 256) (k : Fin 1024) :
    k0_pay10 (F := Ideal) (k0_pay3 x2 x3) (k0_pay5 i x4 x5) (k0_pay6 i x4 x5) (k0_pay7 i x2 x3 x4 x5) k0_pay8 k0_pay9 2#32 x6 x1 (ix2 y k)
      = (x1 (ix2 y k) * ((if y.val = 0 then (if (i 0).val % 16 = 0 then 0 else x4 (ix2 14 k) * x5 (ix2 14 k))
            else if y.val = 1 then (if (i 0).val % 16 = 0 then 0 else x4 (ix2 15 k) * x5 (ix2 15 k))
            else x2 (ix2 (rot y 2) k) * x3 (ix2 (rot y 2) k)) * x6 (ix2 0 k)
          + (if y.val = 0 then (if (i 0).val % 16 = 0 then 0 else x4 (ix2 15 k) * x5 (ix2 15 k))
            else x2 (ix2 (rot y 1) k) * x3 (ix2 (rot y 1) k)) * x6 (ix2 1 k)
          + x2 (ix2 y k) * x3 (ix2 y k) * x6 (ix2 2 k)) : EReal) := by
  unfold rot
  pointwise [k0_pay10, k0_pay3, k0_pay4, k0_pay5, k0_pay6, k0_pay7, k0_pay8, k0_pay9]
  have hs := at_start (i 0)
  rw [hs, row_zero, row_one]
  simp only [select_ite]

end Cert.KernelIdeal.Value
end
-- ==== Proof.MergeRegions.lean ====
module

public import proofs.«01_k».proof.Proof.MergeConv

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-! ## The layer's tail, row by row and column by column -/

/-- Row `r` of an array of rows belongs to sequence `r / 4096`. -/
def seqOf (r : Fin 16384) : Fin 4 := ⟨r.val / 4096, by have := r.isLt; omega⟩

/-- The convolution's input `cc * cx` at a row `n` (zero past the array). -/
def gated (P : FVec Ideal S16384x14336 .bf16) (n : ℕ) (k : Fin 1024) : EReal :=
  if h : n < 16384 then
    P (ix2 ⟨n, h⟩ ⟨3072 + k.val, by have := k.isLt; omega⟩) * P (ix2 ⟨n, h⟩ ⟨4096 + k.val, by have := k.isLt; omega⟩) else 0

/-- The same `d` rows before row `r`, zero where that row lies before the sequence. -/
def before (P : FVec Ideal S16384x14336 .bf16) (r : Fin 16384) (k : Fin 1024) (d : ℕ) : EReal :=
  if r.val % 4096 < d then 0 else gated P (r.val - d) k

/-- The gated short convolution. -/
def conv (P : FVec Ideal S16384x14336 .bf16) (w : FVec Ideal S3x1024 .f32) (r : Fin 16384) (k : Fin 1024) : EReal :=
  P (ix2 r ⟨2048 + k.val, by have := k.isLt; omega⟩)
    * (before P r k 2 * w (ix2 0 k) + before P r k 1 * w (ix2 1 k) + gated P r.val k * w (ix2 2 k))

/-- The sigmoid of the projection's column `o + j`. -/
def gate (P : FVec Ideal S16384x14336 .bf16) (o : ℕ) (ho : o + 2048 ≤ 14336) (r : Fin 16384) (j : Fin 2048) : EReal :=
  Ideal.div 1 (1 + Ideal.exp (0 - P (ix2 r ⟨o + j.val, by have := j.isLt; omega⟩)))

/-- The three branches, projected, gated and added. -/
def merged (A H : FVec Ideal S16384x1024 .bf16) (P : FVec Ideal S16384x14336 .bf16) (w : FVec Ideal S3x1024 .f32)
    (wa wc wh : FVec Ideal S2x1024x2048 .bf16) (r : Fin 16384) (j : Fin 2048) : EReal :=
  gate P 8192 (by decide) r j * (∑ k : Fin 1024, (A (ix2 r k) * wa (ix3 1 k j) : EReal))
    + gate P 10240 (by decide) r j * (∑ k : Fin 1024, (conv P w r k * wc (ix3 1 k j) : EReal))
    + gate P 12288 (by decide) r j * (∑ k : Fin 1024, (H (ix2 r k) * wh (ix3 1 k j) : EReal))

/-- The residual stream after the mixers. -/
def mixed (A H : FVec Ideal S16384x1024 .bf16) (P : FVec Ideal S16384x14336 .bf16) (w : FVec Ideal S3x1024 .f32)
    (wa wc wh : FVec Ideal S2x1024x2048 .bf16) (wo : FVec Ideal S2x2048x2048 .bf16) (X : FVec Ideal S16384x2048 .f32)
    (g1 : FVec Ideal S4x1x2048 .f32) : FVec Ideal S16384x2048 .f32 :=
  fun i => (X i + g1 (ix3 (seqOf (i 0)) 0 (i 1)) * (∑ k : Fin 2048, (merged A H P w wa wc wh (i 0) k * wo (ix3 1 k (i 1)) : EReal)) : EReal)

/-- The root-mean-square norm of each row, weighted by `g`, then the sequence's scale and shift. -/
def norm (X : FVec Ideal S16384x2048 .f32) (g : FVec Ideal S1x2048 .f32) (sh sc : FVec Ideal S4x1x2048 .f32) :
    FVec Ideal S16384x2048 .bf16 :=
  fun i => (X i * Ideal.rsqrt (Ideal.div (∑ k : Fin 2048, (X (ix2 (i 0) k) * X (ix2 (i 0) k) : EReal)) (Ideal.ofBits FTy.f32 1157627904#32)
      + Ideal.ofBits FTy.f32 897988541#32) * g (ix2 0 (i 1)) * (1 + sc (ix3 (seqOf (i 0)) 0 (i 1))) + sh (ix3 (seqOf (i 0)) 0 (i 1)) : EReal)

/-- The first product of the MLP and its squared positive part. -/
def up (H : FVec Ideal S16384x2048 .bf16) (W : FVec Ideal S2x2048x8192 .bf16) : FVec Ideal S16384x8192 .bf16 :=
  fun i => (max (∑ k : Fin 2048, (H (ix2 (i 0) k) * W (ix3 1 k (i 1)) : EReal)) 0
    * max (∑ k : Fin 2048, (H (ix2 (i 0) k) * W (ix3 1 k (i 1)) : EReal)) 0 : EReal)

/-- The residual stream after the MLP. -/
def down (A : FVec Ideal S16384x8192 .bf16) (W : FVec Ideal S2x8192x2048 .bf16) (X : FVec Ideal S16384x2048 .f32)
    (g2 : FVec Ideal S4x1x2048 .f32) : FVec Ideal S16384x2048 .f32 :=
  fun i => (X i + g2 (ix3 (seqOf (i 0)) 0 (i 1)) * (∑ k : Fin 8192, (A (ix2 (i 0) k) * W (ix3 1 k (i 1)) : EReal)) : EReal)

/-! ## What the regions leave -/

theorem idx1 : ∀ t : Fin cfg1.N, win1_0.index t = ![t.val, 0] ∧ win1_1.index t = ![1, 0, 0] ∧ win1_2.index t = ![t.val, 0] :=
  (by decide +kernel : ∀ t : Fin grid1.N, _)

theorem idx2 : ∀ t : Fin cfg2.N, win2_0.index t = ![t.val, 0] ∧ win2_1.index t = ![1, 0, 0] ∧ win2_2.index t = ![t.val, 0]
    ∧ win2_3.index t = ![t.val / 16, 0, 0] ∧ win2_4.index t = ![0, 0] ∧ win2_5.index t = ![t.val / 16, 0, 0]
    ∧ win2_6.index t = ![t.val / 16, 0, 0] ∧ win2_7.index t = ![t.val, 0] :=
  (by decide +kernel : ∀ t : Fin grid2.N, _)

theorem final1 (c : Dev nD) : (dat1 V c).arrAt 2 cfg1.N = up (V c main_v11_1) (V c main_v4) := by
  refine (dat1 V c).arrAt_eq_of_covers 2 _ (by decide +kernel) fun t _ y => ?_
  blk_simp
  rw [after1_2]; frame_out
  unfold up
  pointwise [k1_pay1]
  blk_point [iblk1, idx1 t]

theorem final2 (c : Dev nD) : (dat2 V c).arrAt 7 cfg2.N
    = (norm (down (V c main_v12) (V c main_v5) (V c main_v11_0) (V c main_v14)) (V c main_v15) (V c main_v16) (V c main_v17) : FVec Ideal S16384x2048 .bf16) := by
  refine (dat2 V c).arrAt_eq_of_covers 7 _ (by decide +kernel) fun t _ y => ?_
  blk_simp
  rw [after2_7]; frame_out
  unfold norm down seqOf
  pointwise [k2_pay1]
  blk_point [iblk2, idx2 t]

end Cert.KernelIdeal.Value
end
-- ==== Proof.MergeTile.lean ====
module

public import proofs.«01_k».proof.Proof.MergeRegions

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- Row `y` of tile `t`. -/
abbrev row (t : Fin cfg0.N) (y : Fin 256) : Fin 16384 := ⟨256 * t.val + y.val, by have := y.isLt; have : t.val < 64 := t.isLt; omega⟩

theorem idx0 : ∀ t : Fin cfg0.N, win0_0.index t = ![t.val, 0] ∧ win0_1.index t = ![t.val, 2] ∧ win0_2.index t = ![t.val, 3]
    ∧ win0_3.index t = ![t.val, 4] ∧ win0_4.index t = ![t.val * 16 - 1, 3] ∧ win0_5.index t = ![t.val * 16 - 1, 4] ∧ win0_6.index t = ![0, 0]
    ∧ win0_7.index t = ![t.val, 0] ∧ win0_8.index t = ![1, 0, 0] ∧ win0_9.index t = ![1, 0, 0] ∧ win0_10.index t = ![1, 0, 0]
    ∧ win0_11.index t = ![t.val, 4] ∧ win0_12.index t = ![t.val, 5] ∧ win0_13.index t = ![t.val, 6] ∧ win0_14.index t = ![1, 0, 0]
    ∧ win0_15.index t = ![t.val, 0] ∧ win0_16.index t = ![t.val / 16, 0, 0] ∧ win0_17.index t = ![0, 0] ∧ win0_18.index t = ![t.val / 16, 0, 0]
    ∧ win0_19.index t = ![t.val / 16, 0, 0] ∧ win0_20.index t = ![t.val, 0] ∧ win0_21.index t = ![t.val, 0] :=
  (by decide +kernel : ∀ t : Fin grid0.N, _)

theorem coord0 : ∀ t : Fin cfg0.N, (grid0.coords t 0).val = t.val := (by decide +kernel : ∀ t : Fin grid0.N, _)

theorem blk1 (c : Dev nD) (t : Fin cfg0.N) (y : Fin 256) (k : Fin 1024) :
    iblk0 V c 1 t (ix2 y k) = V c main_arg2 (ix2 (row t y) ⟨2048 + k.val, by have := k.isLt; omega⟩) := by
  unfold row
  pointwise []
  blk_point [iblk0, idx0 t]
theorem blk2 (c : Dev nD) (t : Fin cfg0.N) (y : Fin 256) (k : Fin 1024) :
    iblk0 V c 2 t (ix2 y k) = V c main_arg2 (ix2 (row t y) ⟨3072 + k.val, by have := k.isLt; omega⟩) := by
  unfold row
  pointwise []
  blk_point [iblk0, idx0 t]
theorem blk3 (c : Dev nD) (t : Fin cfg0.N) (y : Fin 256) (k : Fin 1024) :
    iblk0 V c 3 t (ix2 y k) = V c main_arg2 (ix2 (row t y) ⟨4096 + k.val, by have := k.isLt; omega⟩) := by
  unfold row
  pointwise []
  blk_point [iblk0, idx0 t]
theorem blk4 (c : Dev nD) (t : Fin cfg0.N) (y : Fin 16) (k : Fin 1024) :
    iblk0 V c 4 t (ix2 y k) = V c main_arg2 (ix2 ⟨(t.val * 16 - 1) * 16 + y.val, by have := y.isLt; have : t.val < 64 := t.isLt; omega⟩ ⟨3072 + k.val, by have := k.isLt; omega⟩) := by
  pointwise []
  blk_point [iblk0, idx0 t]
theorem blk5 (c : Dev nD) (t : Fin cfg0.N) (y : Fin 16) (k : Fin 1024) :
    iblk0 V c 5 t (ix2 y k) = V c main_arg2 (ix2 ⟨(t.val * 16 - 1) * 16 + y.val, by have := y.isLt; have : t.val < 64 := t.isLt; omega⟩ ⟨4096 + k.val, by have := k.isLt; omega⟩) := by
  pointwise []
  blk_point [iblk0, idx0 t]
theorem blk6 (c : Dev nD) (t : Fin cfg0.N) (y : Fin 3) (k : Fin 1024) :
    iblk0 V c 6 t (ix2 y k) = V c main_arg4 (ix2 y k) := by
  pointwise []
  blk_point [iblk0, idx0 t]

theorem gated_eq (P : FVec Ideal S16384x14336 .bf16) (n : Fin 16384) (m : ℕ) (k : Fin 1024) (h : n.val = m) :
    (P (ix2 n ⟨3072 + k.val, by have := k.isLt; omega⟩) * P (ix2 n ⟨4096 + k.val, by have := k.isLt; omega⟩) : EReal) = gated P m k := by
  subst h; unfold gated; rw [dif_pos n.isLt]

/-- The convolution's tile is the convolution at the tile's rows. -/
theorem conv_block (c : Dev nD) (t : Fin cfg0.N) (y : Fin 256) (k : Fin 1024) :
    k0_pay10 (F := Ideal) (k0_pay3 (iblk0 V c 2 t) (iblk0 V c 3 t))
      (k0_pay5 (grid0.coords t) (iblk0 V c 4 t) (iblk0 V c 5 t))
      (k0_pay6 (grid0.coords t) (iblk0 V c 4 t) (iblk0 V c 5 t))
      (k0_pay7 (grid0.coords t) (iblk0 V c 2 t) (iblk0 V c 3 t) (iblk0 V c 4 t) (iblk0 V c 5 t))
      k0_pay8 k0_pay9 2#32 (iblk0 V c 6 t) (iblk0 V c 1 t) (ix2 y k)
    = conv (V c main_arg2) (V c main_arg4) (row t y) k := by
  have ht : t.val < 64 := t.isLt
  have hy := y.isLt
  rw [conv_pay, coord0]
  simp only [blk1, blk2, blk3, blk4, blk5, blk6]
  unfold conv before
  have hr : (row t y).val % 4096 = 256 * (t.val % 16) + y.val := by show (256 * t.val + y.val) % 4096 = _; omega
  have hv : (row t y).val = 256 * t.val + y.val := rfl
  congr 1
  congr 1
  · congr 1
    · congr 1
      split_ifs with h0 h1 h2 h3 h4 h5 h6
      all_goals first
        | rfl
        | omega
        | exact gated_eq _ _ _ _ (by simp only [rot, row]; omega)
        | exact gated_eq _ _ _ _ (by simp only [rot, row] at *; show _ = _; omega)
    · congr 1
      split_ifs
      all_goals first
        | rfl
        | omega
        | exact gated_eq _ _ _ _ (by simp only [rot, row]; omega)
  · congr 1
    exact gated_eq _ _ _ _ rfl

/-- Row `a` of tile `t` in the array of rows, for the residual's window. -/
theorem emb20 (t : Fin cfg0.N) (a : Fin 256) (b : Fin 2048) : row t a = ((win0_20.blk t).view.emb (ix2 a b) 0 : Fin 16384) := by
  refine Fin.ext (Eq.trans ?_ (Pipeline.Window.rect_emb_val win0_20 t (ix2 a b) 0).symm)
  rw [show win0_20.index t 0 = t.val from by rw [(idx0 t).2.2.2.2.2.2.2.2.2.2.2.2.2.2.2.2.2.2.2.2.1]; rfl]
  show 256 * t.val + a.val = t.val * 256 + a.val
  omega

/-- Row `a` of tile `t` in the array of rows, for the normalised rows' window. -/
theorem emb21 (t : Fin cfg0.N) (a : Fin 256) (b : Fin 2048) : row t a = ((win0_21.blk t).view.emb (ix2 a b) 0 : Fin 16384) := by
  refine Fin.ext (Eq.trans ?_ (Pipeline.Window.rect_emb_val win0_21 t (ix2 a b) 0).symm)
  rw [show win0_21.index t 0 = t.val from by rw [(idx0 t).2.2.2.2.2.2.2.2.2.2.2.2.2.2.2.2.2.2.2.2.2]; rfl]
  show 256 * t.val + a.val = t.val * 256 + a.val
  omega

/-- The residual stream after the mixers, of a region's entry contents. -/
abbrev mixedOf (c : Dev nD) : FVec Ideal S16384x2048 .f32 :=
  mixed (V c main_arg0) (V c main_arg1) (V c main_arg2) (V c main_arg4) (V c main_v0) (V c main_v1) (V c main_v2) (V c main_v3) (V c main_v6) (V c main_v7)

end Cert.KernelIdeal.Value
end
-- ==== Proof.MergeFinal.lean ====
module

public import proofs.«01_k».proof.Proof.MergeTile

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem final0_20 (c : Dev nD) : (dat0 V c).arrAt 20 cfg0.N = mixedOf V c := by
  refine (dat0 V c).arrAt_eq_of_covers 20 _ (by decide +kernel) fun t _ y => ?_
  obtain ⟨a, b, rfl⟩ : ∃ (a : Fin 256) (b : Fin 2048), y = (ix2 a b : S256x2048.Idx) := ⟨y 0, y 1, eq_ix2 (y : S256x2048.Idx)⟩
  blk_simp
  rw [after0_20]
  unfold_out out0_20
  frame_out
  unfold mixedOf mixed merged gate seqOf
  pointwise [k0_pay1, k0_pay13, k0_pay14, k0_pay11, k0_pay12]
  simp only [conv_block]
  generalize conv (V c main_arg2) (V c main_arg4) = C
  blk_point [iblk0, idx0 t]
  exact congrArg₂ HMul.hMul (congrArg (fun r => C r _) (emb20 t a b)) rfl

end Cert.KernelIdeal.Value
end
-- ==== Proof.MergeFinalNorm.lean ====
module

public import proofs.«01_k».proof.Proof.MergeTile

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem final0_21 (c : Dev nD) : (dat0 V c).arrAt 21 cfg0.N = norm (mixedOf V c) (V c main_v8) (V c main_v9) (V c main_v10) := by
  refine (dat0 V c).arrAt_eq_of_covers 21 _ (by decide +kernel) fun t _ y => ?_
  obtain ⟨a, b, rfl⟩ : ∃ (a : Fin 256) (b : Fin 2048), y = (ix2 a b : S256x2048.Idx) := ⟨y 0, y 1, eq_ix2 (y : S256x2048.Idx)⟩
  blk_simp
  rw [after0_21]
  unfold_out out0_21
  frame_out
  unfold norm mixedOf mixed merged gate seqOf
  pointwise [k0_pay2, k0_pay1, k0_pay13, k0_pay14, k0_pay11, k0_pay12]
  simp only [conv_block]
  generalize conv (V c main_arg2) (V c main_arg4) = C
  blk_point [iblk0, idx0 t]
  exact congrArg₂ HMul.hMul (congrArg (fun r => C r _) (emb21 t a b)) rfl

end Cert.KernelIdeal.Value
end
-- ==== Proof.MergeHost.lean ====
module

public import proofs.«01_k».proof.Proof.Gen.KernelIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.StableHlo

variable (m : (ℓ : Loc nD τ sig) → Buf (Elt Ideal) ℓ) (ρ : Dev nD → PrngReg)

/-! ## The arrays that the host code makes, from the arguments -/

theorem v0_eq (c : Dev nD) : V1 m ρ c main_v0 = (truncf (F := Ideal) (s := S2x1024x2048) (φ := .f32) .bf16 (m ((c : Thread nD τ).loc main_arg5)) bitsLt_bf16_f32) := by
  show StableHlo.after hostOps0 (W0 m ρ c) _ = _
  after_results_simp

theorem v1_eq (c : Dev nD) : V1 m ρ c main_v1 = (truncf (F := Ideal) (s := S2x1024x2048) (φ := .f32) .bf16 (m ((c : Thread nD τ).loc main_arg6)) bitsLt_bf16_f32) := by
  show StableHlo.after hostOps0 (W0 m ρ c) _ = _
  after_results_simp

theorem v2_eq (c : Dev nD) : V1 m ρ c main_v2 = (truncf (F := Ideal) (s := S2x1024x2048) (φ := .f32) .bf16 (m ((c : Thread nD τ).loc main_arg7)) bitsLt_bf16_f32) := by
  show StableHlo.after hostOps0 (W0 m ρ c) _ = _
  after_results_simp

theorem v3_eq (c : Dev nD) : V1 m ρ c main_v3 = (truncf (F := Ideal) (s := S2x2048x2048) (φ := .f32) .bf16 (m ((c : Thread nD τ).loc main_arg8)) bitsLt_bf16_f32) := by
  show StableHlo.after hostOps0 (W0 m ρ c) _ = _
  after_results_simp

theorem v4_eq (c : Dev nD) : V1 m ρ c main_v4 = (truncf (F := Ideal) (s := S2x2048x8192) (φ := .f32) .bf16 (m ((c : Thread nD τ).loc main_arg13)) bitsLt_bf16_f32) := by
  show StableHlo.after hostOps0 (W0 m ρ c) _ = _
  after_results_simp

theorem v5_eq (c : Dev nD) : V1 m ρ c main_v5 = (truncf (F := Ideal) (s := S2x8192x2048) (φ := .f32) .bf16 (m ((c : Thread nD τ).loc main_arg14)) bitsLt_bf16_f32) := by
  show StableHlo.after hostOps0 (W0 m ρ c) _ = _
  after_results_simp

theorem v6_eq (c : Dev nD) : V1 m ρ c main_v6 = shapeCast S16384x2048 (m ((c : Thread nD τ).loc main_arg3)) shapeCasts_S4x4096x2048_S16384x2048 := by
  show StableHlo.after hostOps0 (W0 m ρ c) _ = _
  after_results_simp
  rfl

theorem v7_eq (c : Dev nD) : V1 m ρ c main_v7 = broadcastInDim S4x1x2048 ![0, 2] bcast_S4x2048_S4x1x2048_0_2 (m ((c : Thread nD τ).loc main_arg9)) := by
  show StableHlo.after hostOps0 (W0 m ρ c) _ = _
  after_results_simp

theorem v8_eq (c : Dev nD) : V1 m ρ c main_v8 = shapeCast S1x2048 (m ((c : Thread nD τ).loc main_arg10)) shapeCasts_S2048_S1x2048 := by
  show StableHlo.after hostOps0 (W0 m ρ c) _ = _
  after_results_simp
  rfl

theorem v9_eq (c : Dev nD) : V1 m ρ c main_v9 = broadcastInDim S4x1x2048 ![0, 2] bcast_S4x2048_S4x1x2048_0_2 (m ((c : Thread nD τ).loc main_arg11)) := by
  show StableHlo.after hostOps0 (W0 m ρ c) _ = _
  after_results_simp

theorem v10_eq (c : Dev nD) : V1 m ρ c main_v10 = broadcastInDim S4x1x2048 ![0, 2] bcast_S4x2048_S4x1x2048_0_2 (m ((c : Thread nD τ).loc main_arg12)) := by
  show StableHlo.after hostOps0 (W0 m ρ c) _ = _
  after_results_simp

theorem v14_eq (c : Dev nD) : V4 m ρ c main_v14 = broadcastInDim S4x1x2048 ![0, 2] bcast_S4x2048_S4x1x2048_0_2 (m ((c : Thread nD τ).loc main_arg15)) := by
  rw [← W3_args m ρ c main_arg15 (by decide)]
  show StableHlo.after hostOps2 (W3 m ρ c) _ = _
  generalize W3 m ρ c = U
  after_results <;> rfl

theorem v15_eq (c : Dev nD) : V4 m ρ c main_v15 = shapeCast S1x2048 (m ((c : Thread nD τ).loc main_arg16)) shapeCasts_S2048_S1x2048 := by
  rw [← W3_args m ρ c main_arg16 (by decide)]
  show StableHlo.after hostOps2 (W3 m ρ c) _ = _
  generalize W3 m ρ c = U
  after_results <;> rfl

theorem v16_zero (c : Dev nD) (i : S4x1x2048.Idx) : (V4 m ρ c main_v16 : FVec Ideal S4x1x2048 .f32) i = (0 : EReal) := by
  have e : V4 m ρ c main_v16 = broadcastInDim S4x1x2048 ![0, 2] bcast_S4x2048_S4x1x2048_0_2 (broadcastInDim S4x2048 ![] bcast_S_S4x2048 (constant (F := Ideal) S_ .f32 0x00000000#32)) := by
    show StableHlo.after hostOps2 (W3 m ρ c) _ = _
    generalize W3 m ρ c = U
    after_results <;> rfl
  rw [e]
  obtain ⟨a, b, d, rfl⟩ : ∃ a b d, i = ix3 a b d := ⟨i 0, i 1, i 2, eq_ix3 i⟩
  pointwise []

theorem v17_zero (c : Dev nD) (i : S4x1x2048.Idx) : (V4 m ρ c main_v17 : FVec Ideal S4x1x2048 .f32) i = (0 : EReal) := by
  have e : V4 m ρ c main_v17 = broadcastInDim S4x1x2048 ![0, 2] bcast_S4x2048_S4x1x2048_0_2 (broadcastInDim S4x2048 ![] bcast_S_S4x2048 (constant (F := Ideal) S_ .f32 0x00000000#32)) := by
    show StableHlo.after hostOps2 (W3 m ρ c) _ = _
    generalize W3 m ρ c = U
    after_results <;> rfl
  rw [e]
  obtain ⟨a, b, d, rfl⟩ : ∃ a b d, i = ix3 a b d := ⟨i 0, i 1, i 2, eq_ix3 i⟩
  pointwise []

end Cert.KernelIdeal.Value
end
-- ==== Proof.MergeRef.lean ====
module

public import proofs.«01_k».proof.Proof.MergeRegions
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.KernelIdeal.Value

variable (x0 x1 : FVec Ideal S16384x1024 .bf16) (x2 : FVec Ideal S16384x14336 .bf16) (x3 : FVec Ideal S4x4096x2048 .f32) (x4 : FVec Ideal S3x1024 .f32)
  (x5 x6 x7 : FVec Ideal S2x1024x2048 .f32) (x8 : FVec Ideal S2x2048x2048 .f32) (x9 : FVec Ideal S4x2048 .f32) (x10 : FVec Ideal S2048 .f32)
  (x11 x12 : FVec Ideal S4x2048 .f32) (x13 : FVec Ideal S2x2048x8192 .f32) (x14 : FVec Ideal S2x8192x2048 .f32) (x15 : FVec Ideal S4x2048 .f32)
  (x16 : FVec Ideal S2048 .f32)

/-- The row of the flattened arrays that holds position `s` of sequence `b`. -/
abbrev flat (b : Fin 4) (s : Fin 4096) : Fin 16384 := ⟨b.val * 4096 + s.val, by have := b.isLt; have := s.isLt; omega⟩

theorem gated_at (n : ℕ) (r : Fin 16384) (h : r.val = n) (k : Fin 1024) (h1 : 3072 + k.val < 14336) (h2 : 4096 + k.val < 14336) :
    x2 (ix2 r ⟨3072 + k.val, h1⟩) * x2 (ix2 r ⟨4096 + k.val, h2⟩) = gated x2 n k := by
  subst h
  unfold gated
  rw [dif_pos r.isLt]

theorem zero_word : (FloatOps.sitofp (F := Ideal) FTy.f32 (0#32 : BitVec 32)) = (0 : EReal) := by
  show (((0#32 : BitVec 32).toInt : ℝ) : EReal) = 0; simp

theorem before_at {p : Prop} [Decidable p] (A : p → EReal) (z : EReal) (hz : z = 0) (r : Fin 16384) (k : Fin 1024) (d : ℕ) (hp : p ↔ ¬ r.val % 4096 < d)
    (hA : ∀ h, A h = gated x2 (r.val - d) k) : (if h : p then A h else z) = before x2 r k d := by
  unfold before
  by_cases h : p
  · rw [dif_pos h, if_neg (hp.mp h), hA]
  · rw [dif_neg h, if_pos (by by_contra h'; exact h (hp.mpr h')), hz]

theorem conv_apply (b : Fin 4) (s : Fin 4096) (k : Fin 1024) :
    val_main_v39 (F := Ideal) x2 x4 (ix3 b s k) = conv x2 x4 (flat b s) k := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18, val_main_v17, val_main_v16, val_main_v15, val_main_call0_v0, val_main_c, val_main_cst, val_main_v4, val_main_v3, val_main_v2,
    val_main_v1, val_main_v0]
  have hb := b.isLt
  have hs := s.isLt
  have hm : (b.val * 4096 + s.val) % 4096 = s.val := by omega
  unfold conv
  refine congrArg₂ HMul.hMul rfl (congrArg₂ HAdd.hAdd (congrArg₂ HAdd.hAdd (congrArg₂ HMul.hMul ?_ rfl) (congrArg₂ HMul.hMul ?_ rfl)) (congrArg₂ HMul.hMul ?_ rfl))
  · exact before_at x2 _ _ zero_word _ k 2 (by simp only [flat, hm]; omega) fun h => gated_at x2 _ _ (by simp only [flat]; omega) k _ _
  · exact before_at x2 _ _ zero_word _ k 1 (by simp only [flat, hm]; omega) fun h => gated_at x2 _ _ (by simp only [flat]; omega) k _ _
  · exact gated_at x2 _ _ rfl k _ _

theorem gate0_apply (b : Fin 4) (s : Fin 4096) (j : Fin 2048) :
    val_main_v54 (F := Ideal) x2 (ix3 b s j) = gate x2 8192 (by decide) (flat b s) j := by
  unfold gate
  pointwise [val_main_v54, val_main_v53, val_main_v52, val_main_v51, val_main_v50, val_main_v49, val_main_v48, val_main_v5, val_main_v1, val_main_v0, val_main_cst_0, val_main_cst_1]
  rw [zero_sub]

theorem gate1_apply (b : Fin 4) (s : Fin 4096) (j : Fin 2048) :
    val_main_v55 (F := Ideal) x2 (ix3 b s j) = gate x2 10240 (by decide) (flat b s) j := by
  unfold gate
  pointwise [val_main_v55, val_main_v53, val_main_v52, val_main_v51, val_main_v50, val_main_v49, val_main_v48, val_main_v5, val_main_v1, val_main_v0, val_main_cst_0, val_main_cst_1]
  rw [zero_sub]
  have e : (⟨8192 + (2048 + j.val), by have := j.isLt; omega⟩ : Fin 14336) = ⟨10240 + j.val, by have := j.isLt; omega⟩ := Fin.ext (by simp only []; omega)
  rw [e]

theorem gate2_apply (b : Fin 4) (s : Fin 4096) (j : Fin 2048) :
    val_main_v56 (F := Ideal) x2 (ix3 b s j) = gate x2 12288 (by decide) (flat b s) j := by
  unfold gate
  pointwise [val_main_v56, val_main_v53, val_main_v52, val_main_v51, val_main_v50, val_main_v49, val_main_v48, val_main_v5, val_main_v1, val_main_v0, val_main_cst_0, val_main_cst_1]
  rw [zero_sub]
  have e : (⟨8192 + (4096 + j.val), by have := j.isLt; omega⟩ : Fin 14336) = ⟨12288 + j.val, by have := j.isLt; omega⟩ := Fin.ext (by simp only []; omega)
  rw [e]

/-- The three branches, projected, gated and added. -/
theorem merged_apply (b : Fin 4) (s : Fin 4096) (j : Fin 2048) :
    val_main_v61 (F := Ideal) x0 x1 x2 x4 x5 x6 x7 (ix3 b s j) = merged x0 x1 x2 x4 x5 x6 x7 (flat b s) j := by
  unfold merged
  pointwise [val_main_v61, val_main_v60, val_main_v59, val_main_v58, val_main_v57, val_main_v47, val_main_v46, val_main_v45, val_main_v44, val_main_v43,
    val_main_v42, val_main_v41, val_main_v40, val_main_v14, val_main_v13, val_main_v12, val_main_v11, val_main_v10]
  simp only [gate0_apply, gate1_apply, gate2_apply, conv_apply]

theorem seqOf_flat (b : Fin 4) (s : Fin 4096) : seqOf (flat b s) = b := by
  have := b.isLt; have := s.isLt
  exact Fin.ext (by simp only [seqOf, flat]; omega)

/-- The host code's shapes of the arrays the regions read. -/
abbrev rows : FVec Ideal S16384x2048 .f32 := shapeCast _ x3 Cert.KernelIdeal.Gen.shapeCasts_S4x4096x2048_S16384x2048
abbrev wide (x : FVec Ideal S4x2048 .f32) : FVec Ideal S4x1x2048 .f32 := broadcastInDim S4x1x2048 ![0, 2] Cert.KernelIdeal.Gen.bcast_S4x2048_S4x1x2048_0_2 x
abbrev line (x : FVec Ideal S2048 .f32) : FVec Ideal Cert.KernelIdeal.S1x2048 .f32 := shapeCast _ x Cert.KernelIdeal.Gen.shapeCasts_S2048_S1x2048

theorem mixed_apply (b : Fin 4) (s : Fin 4096) (j : Fin 2048) :
    val_main_v67 (F := Ideal) x0 x1 x2 x3 x4 x5 x6 x7 x8 x9 (ix3 b s j)
      = mixed x0 x1 x2 x4 x5 x6 x7 x8 (rows x3) (wide x9) (ix2 (flat b s) j) := by
  unfold mixed rows wide
  pointwise [val_main_v67, val_main_v66, val_main_v65, val_main_v64, val_main_v63, val_main_v62, val_main_v6]
  simp only [seqOf_flat, merged_apply]
  have hb := b.isLt
  have hs := s.isLt
  have e1 : (⟨(b.val * 4096 + s.val) / 4096, by omega⟩ : Fin 4) = b := Fin.ext (by simp only []; omega)
  have e2 : (⟨(b.val * 4096 + s.val) % 4096, by omega⟩ : Fin 4096) = s := Fin.ext (by simp only []; omega)
  rw [e1, e2]

theorem norm_apply (b : Fin 4) (s : Fin 4096) (j : Fin 2048) :
    val_main_v86 (F := Ideal) x0 x1 x2 x3 x4 x5 x6 x7 x8 x9 x10 x11 x12 (ix3 b s j)
      = norm (mixed x0 x1 x2 x4 x5 x6 x7 x8 (rows x3) (wide x9)) (line x10) (wide x11) (wide x12) (ix2 (flat b s) j) := by
  unfold Cert.KernelIdeal.Value.norm wide line
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v8, val_main_v7, val_main_cst_2, val_main_cst_3, val_main_cst_4, val_main_cst_5]
  simp only [seqOf_flat, mixed_apply]

theorem up_apply (b : Fin 4) (s : Fin 4096) (j : Fin 8192) :
    val_main_v93 (F := Ideal) x0 x1 x2 x3 x4 x5 x6 x7 x8 x9 x10 x11 x12 x13 (ix3 b s j)
      = up (norm (mixed x0 x1 x2 x4 x5 x6 x7 x8 (rows x3) (wide x9)) (line x10) (wide x11) (wide x12)) x13 (ix2 (flat b s) j) := by
  unfold up
  pointwise [val_main_v93, val_main_v92, val_main_v91, val_main_v88, val_main_v87, val_main_call1_cst, val_main_call1_v0]
  simp only [norm_apply]

theorem down_apply (b : Fin 4) (s : Fin 4096) (j : Fin 2048) :
    val_main_v97 (F := Ideal) x0 x1 x2 x3 x4 x5 x6 x7 x8 x9 x10 x11 x12 x13 x14 x15 (ix3 b s j)
      = down (up (norm (mixed x0 x1 x2 x4 x5 x6 x7 x8 (rows x3) (wide x9)) (line x10) (wide x11) (wide x12)) x13) x14
        (mixed x0 x1 x2 x4 x5 x6 x7 x8 (rows x3) (wide x9)) (wide x15) (ix2 (flat b s) j) := by
  unfold down
  pointwise [val_main_v97, val_main_v96, val_main_v95, val_main_v94, val_main_v90, val_main_v89, val_main_v9]
  simp only [seqOf_flat, mixed_apply, up_apply]

theorem result_apply (Z : FVec Ideal S4x1x2048 .f32) (hZ : ∀ i, Z i = (0 : EReal)) :
    val_main_v111 (F := Ideal) x0 x1 x2 x3 x4 x5 x6 x7 x8 x9 x10 x11 x12 x13 x14 x15 x16
      = norm (down (up (norm (mixed x0 x1 x2 x4 x5 x6 x7 x8 (rows x3) (wide x9)) (line x10) (wide x11) (wide x12)) x13) x14
        (mixed x0 x1 x2 x4 x5 x6 x7 x8 (rows x3) (wide x9)) (wide x15)) (line x16) Z Z := by
  generalize hD : down (up (Cert.KernelIdeal.Value.norm (mixed x0 x1 x2 x4 x5 x6 x7 x8 (rows x3) (wide x9)) (line x10) (wide x11) (wide x12)) x13) x14
    (mixed x0 x1 x2 x4 x5 x6 x7 x8 (rows x3) (wide x9)) (wide x15) = D
  have hd : ∀ b s j, val_main_v97 (F := Ideal) x0 x1 x2 x3 x4 x5 x6 x7 x8 x9 x10 x11 x12 x13 x14 x15 (ix3 b s j) = D (ix2 (flat b s) j) :=
    fun b s j => hD ▸ down_apply x0 x1 x2 x3 x4 x5 x6 x7 x8 x9 x10 x11 x12 x13 x14 x15 b s j
  funext i
  obtain ⟨r, j, rfl⟩ : ∃ r j, i = ix2 r j := ⟨i 0, i 1, eq_ix2 i⟩
  unfold Cert.KernelIdeal.Value.norm line
  pointwise [val_main_v111, val_main_v110, val_main_v109, val_main_v108, val_main_v107, val_main_v106, val_main_v105, val_main_v104, val_main_v103, val_main_v102, val_main_v101, val_main_v100, val_main_v99, val_main_v98, val_main_cst_6, val_main_cst_7, val_main_cst_8]
  have hr := r.isLt
  have e : flat ⟨r.val / 4096, by omega⟩ ⟨r.val % 4096, by omega⟩ = r := Fin.ext (by simp only [flat]; omega)
  simp only [hd, hZ, e, add_zero, mul_one]

end Cert.ReferenceIdeal.Value
end
-- ==== Proof.MergeRun.lean ====
module

public import proofs.«01_k».proof.Proof.MergeFinal
public import proofs.«01_k».proof.Proof.MergeFinalNorm
public import proofs.«01_k».proof.Proof.MergeHost
public import proofs.«01_k».proof.Proof.MergeRef

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Value

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- The run, with every buffer of the host program at what the last region leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- The residual stream after the mixers, from the arguments. -/
def mixedArgs (c : Dev nD) : FVec Ideal S16384x2048 .f32 :=
  mixed (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (Cert.ReferenceIdeal.Value.rows (m ((c : Thread nD τ).loc main_arg3))) (Cert.ReferenceIdeal.Value.wide (m ((c : Thread nD τ).loc main_arg9)))

/-- The MLP's normalised input, from the arguments. -/
def normArgs (c : Dev nD) : FVec Ideal S16384x2048 .bf16 :=
  norm (mixedArgs m c) (Cert.ReferenceIdeal.Value.line (m ((c : Thread nD τ).loc main_arg10))) (Cert.ReferenceIdeal.Value.wide (m ((c : Thread nD τ).loc main_arg11))) (Cert.ReferenceIdeal.Value.wide (m ((c : Thread nD τ).loc main_arg12)))

/-- The MLP's squared activations, from the arguments. -/
def upArgs (c : Dev nD) : FVec Ideal S16384x8192 .bf16 := up (normArgs m c) (m ((c : Thread nD τ).loc main_arg13))

/-- The residual stream after the MLP, from the arguments. -/
def downArgs (c : Dev nD) : FVec Ideal S16384x2048 .f32 :=
  down (upArgs m c) (m ((c : Thread nD τ).loc main_arg14)) (mixedArgs m c) (Cert.ReferenceIdeal.Value.wide (m ((c : Thread nD τ).loc main_arg15)))

theorem mixedOf_eq (c : Dev nD) : mixedOf (V1 m ρ) c = mixedArgs m c := by
  have a : ∀ b ∈ argRefs, V1 m ρ c b = m ((c : Thread nD τ).loc b) := W1_args m ρ c
  unfold mixedOf mixedArgs
  rw [v0_eq, v1_eq, v2_eq, v3_eq, v6_eq, v7_eq, a main_arg0 (by decide), a main_arg1 (by decide), a main_arg2 (by decide), a main_arg4 (by decide)]
  rfl

theorem w2_0 (c : Dev nD) : W2 m ρ c main_v11_0 = mixedArgs m c :=
  (W2_arr m ρ c 20).trans ((final0_20 (V1 m ρ) c).trans (mixedOf_eq m ρ c))

theorem w2_1 (c : Dev nD) : W2 m ρ c main_v11_1 = normArgs m c :=
  (W2_arr m ρ c 21).trans ((final0_21 (V1 m ρ) c).trans (by rw [mixedOf_eq, v8_eq, v9_eq, v10_eq]; rfl))

theorem w3 (c : Dev nD) : W3 m ρ c main_v12 = upArgs m c := by
  refine (W3_arr m ρ c 2).trans ((final1 (V2 m ρ) c).trans ?_)
  rw [show V2 m ρ c main_v11_1 = normArgs m c from w2_1 m ρ c, show V2 m ρ c main_v4 = V1 m ρ c main_v4 from W2_of m ρ c main_v4 (by decide), v4_eq]
  rfl

theorem w5 (c : Dev nD) : W5 m ρ c main_v18
    = norm (downArgs m c) (Cert.ReferenceIdeal.Value.line (m ((c : Thread nD τ).loc main_arg16))) (V4 m ρ c main_v16) (V4 m ρ c main_v17) := by
  refine (W5_arr m ρ c 7).trans ((final2 (V4 m ρ) c).trans ?_)
  rw [show V4 m ρ c main_v12 = upArgs m c from (W4_of m ρ c main_v12 (by decide)).trans (w3 m ρ c),
    show V4 m ρ c main_v11_0 = mixedArgs m c from (W4_of m ρ c main_v11_0 (by decide)).trans ((W3_of m ρ c main_v11_0 (by decide)).trans (w2_0 m ρ c)),
    show V4 m ρ c main_v5 = V1 m ρ c main_v5 from (W4_of m ρ c main_v5 (by decide)).trans ((W3_of m ρ c main_v5 (by decide)).trans (W2_of m ρ c main_v5 (by decide))),
    v5_eq, v14_eq, v15_eq]
  rfl

/-- The result is the reference's term of the arguments. -/
theorem w5_ref (c : Dev nD) : W5 m ρ c main_v18 = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have hz : V4 m ρ c main_v16 = V4 m ρ c main_v17 := funext fun i => (v16_zero m ρ c i).trans (v17_zero m ρ c i).symm
  refine (w5 m ρ c).trans ?_
  rw [hz]
  exact (Cert.ReferenceIdeal.Value.result_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (V4 m ρ c main_v17) (v17_zero m ρ c)).symm

/-- The kernel's run: the result as the reference's term of the arguments, and the arguments as launched. -/
theorem run : θ_run defs (onTc (τ := τ) (main (F := Ideal))) ⟨m, fun _ => 0, ρ⟩ (fun r => ∀ c : Dev nD,
      r.2.mem ((c.tc : Thread nD τ).loc main_v18) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v18 (by decide))).trans (w5_ref m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c)⟩) (run_all m ρ)

end Cert.KernelIdeal.Value
end
-- ==== Proof.MergeClaim.lean ====
module

public import proofs.«01_k».proof.Defs
public import proofs.«01_k».proof.Proof.MergeRun
public import proofs.«01_k».proof.Proof.Gen.Kernel.Frame
public import proofs.«01_k».proof.Proof.Gen.ReferenceIdeal.Run

@[expose] public section

set_option maxRecDepth 16384

noncomputable section

open Idealize.ShloMosaic Idealize.ShloMosaic.TcCoe Idealize.SL.Sem

namespace Cert.Proof

/-- The tail's reference ends with the arguments unchanged and every counter at zero. -/
theorem ref_quiescent : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The tail ends with the result that its reference has of the same arguments. -/
theorem merge_algebraic : Cert.algebraic_KernelIdeal_ReferenceIdeal (hKernelIdeal := Cert.KernelIdeal.Gen.facts)
    (hReferenceIdeal := Cert.ReferenceIdeal.Gen.facts) := by
  intro m g m' g' _ hm
  refine ⟨_, Cert.KernelIdeal.Value.run m g, ?_⟩
  refine (θ_run _ _ _).mono (fun r h c => ?_) (Cert.ReferenceIdeal.Value.run (F := Ideal) m' g')
  obtain ⟨h0, hargs⟩ := h c
  obtain ⟨e0, e1, e2, e3, e4, e5, e6, e7, e8, e9, e10, e11, e12, e13, e14, e15, e16⟩ := hm c
  refine ⟨h0.trans ?_, hargs⟩
  rw [Cert.ReferenceIdeal.Read.val_main_v111_eq, ← e0, ← e1, ← e2, ← e3, ← e4, ← e5, ← e6, ← e7, ← e8, ← e9, ← e10, ← e11, ← e12, ← e13, ← e14, ← e15, ← e16]

end Cert.Proof
end
-- ==== Proof.ProjRegions.lean ====
module

public import proofs.«01_k».proof.Proof.Gen.ProjIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (V : (c : Dev nD) → (b : Ref sig .tc) → Buf (Elt Ideal) ((c : Thread nD τ).loc b))

/-! ## What each region leaves in its output array, from the arrays it is entered with -/

theorem idx0 : ∀ t : Fin cfg0.N, win0_0.index t = ![t.val, 0] ∧ win0_1.index t = ![0, 0] ∧ win0_2.index t = ![t.val / 8, 0, 0]
    ∧ win0_3.index t = ![t.val / 8, 0, 0] ∧ win0_4.index t = ![t.val, 0] :=
  (by decide +kernel : ∀ t : Fin grid0.N, _)

theorem idx1 : ∀ t : Fin cfg1.N, win1_0.index t = ![t.val / 7, 0] ∧ win1_1.index t = ![0, 0, t.val % 7] ∧ win1_2.index t = ![t.val / 7, t.val % 7] :=
  (by decide +kernel : ∀ t : Fin grid1.N, _)

theorem idx2 : ∀ t : Fin cfg2.N, win2_0.index t = ![t.val, 0] ∧ win2_1.index t = ![0, 0, 0] ∧ win2_2.index t = ![t.val, 0] :=
  (by decide +kernel : ∀ t : Fin grid2.N, _)

/-- Row `r` of an array of rows belongs to sequence `r / 4096`. -/
def seqOf (r : Fin 16384) : Fin 4 := ⟨r.val / 4096, by have := r.isLt; omega⟩

/-- The root-mean-square norm of each row, weighted by `g`, then the sequence's scale and shift. -/
def norm (X : FVec Ideal S16384x2048 .f32) (g : FVec Ideal S1x2048 .f32) (sh sc : FVec Ideal S4x1x2048 .f32) :
    FVec Ideal S16384x2048 .bf16 :=
  fun i => (X i * Ideal.rsqrt (Ideal.div (∑ k : Fin 2048, (X (ix2 (i 0) k) * X (ix2 (i 0) k) : EReal)) (Ideal.ofBits FTy.f32 1157627904#32)
      + Ideal.ofBits FTy.f32 897988541#32) * g (ix2 0 (i 1)) * (1 + sc (ix3 (seqOf (i 0)) 0 (i 1))) + sh (ix3 (seqOf (i 0)) 0 (i 1)) : EReal)

/-- An array of rows times the first of two stacked matrices. -/
def mm (H : FVec Ideal S16384x2048 .bf16) (W : FVec Ideal S2x2048x14336 .bf16) : FVec Ideal S16384x14336 .bf16 :=
  fun i => ∑ k : Fin 2048, (H (ix2 (i 0) k) * W (ix3 0 k (i 1)) : EReal)

/-- The same for the narrow matrix of the second projection. -/
def mmSide (H : FVec Ideal S16384x2048 .bf16) (W : FVec Ideal S2x2048x1152 .bf16) : FVec Ideal S16384x1152 .f32 :=
  fun i => ∑ k : Fin 2048, (H (ix2 (i 0) k) * W (ix3 0 k (i 1)) : EReal)

theorem final0 (c : Dev nD) : (dat0 V c).arrAt 4 cfg0.N = norm (V c main_v19) (V c main_v20) (V c main_v21) (V c main_v22) := by
  refine (dat0 V c).arrAt_eq_of_covers 4 _ (by decide +kernel) fun t _ y => ?_
  blk_simp
  rw [after0_4]; frame_out
  unfold norm seqOf
  pointwise [k0_pay1]
  blk_point [iblk0, idx0 t]

theorem final1 (c : Dev nD) : (dat1 V c).arrAt 2 cfg1.N = mm (V c main_v23) (V c main_v12) := by
  refine (dat1 V c).arrAt_eq_of_covers 2 _ (by decide +kernel) fun t _ y => ?_
  blk_simp
  rw [after1_2]; frame_out
  unfold mm
  pointwise [k1_pay1]
  blk_point [iblk1, idx1 t]

theorem final2 (c : Dev nD) : (dat2 V c).arrAt 2 cfg2.N = mmSide (V c main_v23) (V c main_v18) := by
  refine (dat2 V c).arrAt_eq_of_covers 2 _ (by decide +kernel) fun t _ y => ?_
  blk_simp
  rw [after2_2]; frame_out
  unfold mmSide
  pointwise [k2_pay1]
  blk_point [iblk2, idx2 t]

end Cert.ProjIdeal.Value
end
-- ==== Proof.ProjHost.lean ====
module

public import proofs.«01_k».proof.Proof.Gen.ProjIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen Idealize.ShloMosaic.StableHlo

variable (m : (ℓ : Loc nD τ sig) → Buf (Elt Ideal) ℓ) (ρ : Dev nD → PrngReg)

/-- The column of the layer's whole projection that stands at column `j` of the main projection. -/
def colMain (j : Fin 14336) : Fin 15432 :=
  ⟨if j.val < 2048 then j.val else if j.val < 6144 then j.val + 72 else j.val + 1096, by have := j.isLt; split_ifs <;> omega⟩

/-- The column of the layer's whole projection that stands at column `j` of the side projection. -/
def colSide (j : Fin 1096) : Fin 15432 :=
  ⟨if j.val < 1024 then j.val + 6216 else j.val + 1024, by have := j.isLt; split_ifs <;> omega⟩

/-- The matrix of the main projection as the host code packs it. -/
def wMain (W : FVec Ideal S2x2048x15432 .f32) : FVec Ideal S2x2048x14336 .bf16 :=
  truncf .bf16 (concatenate S2x2048x14336 2 [⟨S2x2048x1024, extractStridedSlice S2x2048x1024 ![0, 0, 0] W slices_S2x2048x15432_S2x2048x1024_0_0_0⟩, ⟨S2x2048x256, extractStridedSlice S2x2048x256 ![0, 0, 1024] W slices_S2x2048x15432_S2x2048x256_0_0_1024⟩, ⟨S2x2048x256, extractStridedSlice S2x2048x256 ![0, 0, 1280] W slices_S2x2048x15432_S2x2048x256_0_0_1280⟩, ⟨S2x2048x512, extractStridedSlice S2x2048x512 ![0, 0, 1536] W slices_S2x2048x15432_S2x2048x512_0_0_1536⟩, ⟨S2x2048x1024, extractStridedSlice S2x2048x1024 ![0, 0, 2120] W slices_S2x2048x15432_S2x2048x1024_0_0_2120⟩, ⟨S2x2048x1024, extractStridedSlice S2x2048x1024 ![0, 0, 3144] W slices_S2x2048x15432_S2x2048x1024_0_0_3144⟩, ⟨S2x2048x1024, extractStridedSlice S2x2048x1024 ![0, 0, 4168] W slices_S2x2048x15432_S2x2048x1024_0_0_4168⟩, ⟨S2x2048x1024, extractStridedSlice S2x2048x1024 ![0, 0, 5192] W slices_S2x2048x15432_S2x2048x1024_0_0_5192⟩, ⟨S2x2048x1024, extractStridedSlice S2x2048x1024 ![0, 0, 7240] W slices_S2x2048x15432_S2x2048x1024_0_0_7240⟩, ⟨S2x2048x1024, extractStridedSlice S2x2048x1024 ![0, 0, 8264] W slices_S2x2048x15432_S2x2048x1024_0_0_8264⟩, ⟨S2x2048x6144, extractStridedSlice S2x2048x6144 ![0, 0, 9288] W slices_S2x2048x15432_S2x2048x6144_0_0_9288⟩]
    concatenates_S2x2048x1024_S2x2048x256_S2x2048x256_S2x2048x512_S2x2048x1024_S2x2048x1024_S2x2048x1024_S2x2048x1024_S2x2048x1024_S2x2048x1024_S2x2048x6144_S2x2048x14336_d2) bitsLt_bf16_f32

/-- The matrix of the side projection before its zero columns, as the host code packs it. -/
def wSide (W : FVec Ideal S2x2048x15432 .f32) : FVec Ideal S2x2048x1096 .f32 :=
  concatenate S2x2048x1096 2 [⟨S2x2048x1024, extractStridedSlice S2x2048x1024 ![0, 0, 6216] W slices_S2x2048x15432_S2x2048x1024_0_0_6216⟩, ⟨S2x2048x64, extractStridedSlice S2x2048x64 ![0, 0, 2048] W slices_S2x2048x15432_S2x2048x64_0_0_2048⟩, ⟨S2x2048x8, extractStridedSlice S2x2048x8 ![0, 0, 2112] W slices_S2x2048x15432_S2x2048x8_0_0_2112⟩]
    concatenates_S2x2048x1024_S2x2048x64_S2x2048x8_S2x2048x1096_d2

theorem dite_key {α : Sort _} {P : Prop} [Decidable P] {A : P → α} {B : ¬P → α} {v : α} (ha : ∀ h, A h = v) (hb : ∀ h, B h = v) :
    dite P A B = v := by
  by_cases h : P
  · rw [dif_pos h]; exact ha h
  · rw [dif_neg h]; exact hb h

/-- Column `j` of the packed main matrix is column `colMain j` of the whole one. -/
theorem wMain_apply (W : FVec Ideal S2x2048x15432 .f32) (k : Fin 2048) (j : Fin 14336) :
    wMain W (ix3 0 k j) = W (ix3 0 k (colMain j)) := by
  have hj := j.isLt
  pointwise [wMain]
  have hc : j.val < 2048 ∧ (colMain j).val = j.val ∨ 2048 ≤ j.val ∧ j.val < 6144 ∧ (colMain j).val = j.val + 72
      ∨ 6144 ≤ j.val ∧ (colMain j).val = j.val + 1096 := by
    unfold colMain; simp only []; split_ifs <;> omega
  have key : ∀ (n : ℕ) (h : n < 15432), n = (colMain j).val → W (ix3 0 k ⟨n, h⟩) = W (ix3 0 k (colMain j)) := by
    intro n h e; subst e; rfl
  iterate 10 refine dite_key (fun h => key _ _ (by omega)) fun h => ?_
  exact key _ _ (by omega)

/-- Column `j` of the packed side matrix, by its three pieces. -/
theorem wSide_apply (W : FVec Ideal S2x2048x15432 .f32) (k : Fin 2048) (j : Fin 1096) :
    wSide W (ix3 0 k j) = W (ix3 0 k (colSide j)) := by
  have hj := j.isLt
  pointwise [wSide]
  have hc : j.val < 1024 ∧ (colSide j).val = j.val + 6216 ∨ 1024 ≤ j.val ∧ (colSide j).val = j.val + 1024 := by
    unfold colSide; simp only []; split_ifs <;> omega
  have key : ∀ (n : ℕ) (h : n < 15432), n = (colSide j).val → W (ix3 0 k ⟨n, h⟩) = W (ix3 0 k (colSide j)) := by
    intro n h e; subst e; rfl
  iterate 2 refine dite_key (fun h => key _ _ (by omega)) fun h => ?_
  exact key _ _ (by omega)

/-- The side matrix with its 56 zero columns. -/
def wSidePad (W : FVec Ideal S2x2048x15432 .f32) : FVec Ideal S2x2048x1152 .bf16 :=
  truncf .bf16 (pad S2x2048x1152 ![0, 0, 0] ![0, 0, 56] ![0, 0, 0] (wSide W) (sitofp (F := Ideal) .f32 (constantI S_ 32 0#32))
    pads_S2x2048x1096_S2x2048x1152_000_000_0560 h_S_) bitsLt_bf16_f32

theorem wSidePad_apply (W : FVec Ideal S2x2048x15432 .f32) (k : Fin 2048) (j : Fin 1152) :
    wSidePad W (ix3 0 k j) = if h : j.val < 1096 then W (ix3 0 k (colSide ⟨j.val, h⟩)) else 0 := by
  pointwise [wSidePad]
  split
  · exact wSide_apply W k _
  · show (((0#32 : BitVec 32).toInt : ℝ) : EReal) = 0; simp

theorem v12_eq (c : Dev nD) : V3 m ρ c main_v12 = wMain (m ((c : Thread nD τ).loc main_arg4)) := by
  rw [show V3 m ρ c main_v12 = W1 m ρ c main_v12 from (W3_of m ρ c main_v12 (by decide)).trans (W2_of m ρ c main_v12 (by decide))]
  show StableHlo.after hostOps0 (W0 m ρ c) _ = _
  after_results_simp
  rfl

theorem v16_eq (c : Dev nD) : W1 m ρ c main_v16 = wSide (m ((c : Thread nD τ).loc main_arg4)) := by
  show StableHlo.after hostOps0 (W0 m ρ c) _ = _
  after_results_simp
  rfl

theorem v17_eq (c : Dev nD) : W2 m ρ c main_v17 = pad S2x2048x1152 ![0, 0, 0] ![0, 0, 56] ![0, 0, 0] (wSide (m ((c : Thread nD τ).loc main_arg4)))
    (sitofp (F := Ideal) .f32 (constantI S_ 32 0#32)) pads_S2x2048x1096_S2x2048x1152_000_000_0560 h_S_ := by
  have hc : W1 m ρ c main_c = constantI S_ 32 0#32 := by
    show StableHlo.after hostOps0 (W0 m ρ c) _ = _
    after_results <;> rfl
  rw [← hc, ← v16_eq m ρ c]
  show StableHlo.after hostOps0_1 (W1 m ρ c) _ = _
  generalize W1 m ρ c = U
  after_results <;> rfl

theorem v18_eq (c : Dev nD) : V3 m ρ c main_v18 = wSidePad (m ((c : Thread nD τ).loc main_arg4)) := by
  unfold wSidePad
  rw [← v17_eq m ρ c]
  show StableHlo.after hostOps0_2 (W2 m ρ c) _ = _
  generalize W2 m ρ c = U
  after_results <;> rfl

theorem v19_eq (c : Dev nD) : V3 m ρ c main_v19 = shapeCast S16384x2048 (m ((c : Thread nD τ).loc main_arg0)) shapeCasts_S4x4096x2048_S16384x2048 := by
  rw [← W2_args m ρ c main_arg0 (by decide)]
  show StableHlo.after hostOps0_2 (W2 m ρ c) _ = _
  generalize W2 m ρ c = U
  after_results <;> rfl

theorem v20_eq (c : Dev nD) : V3 m ρ c main_v20 = shapeCast S1x2048 (m ((c : Thread nD τ).loc main_arg1)) shapeCasts_S2048_S1x2048 := by
  rw [← W2_args m ρ c main_arg1 (by decide)]
  show StableHlo.after hostOps0_2 (W2 m ρ c) _ = _
  generalize W2 m ρ c = U
  after_results <;> rfl

theorem v21_eq (c : Dev nD) : V3 m ρ c main_v21 = broadcastInDim S4x1x2048 ![0, 2] bcast_S4x2048_S4x1x2048_0_2 (m ((c : Thread nD τ).loc main_arg2)) := by
  rw [← W2_args m ρ c main_arg2 (by decide)]
  show StableHlo.after hostOps0_2 (W2 m ρ c) _ = _
  generalize W2 m ρ c = U
  after_results <;> rfl

theorem v22_eq (c : Dev nD) : V3 m ρ c main_v22 = broadcastInDim S4x1x2048 ![0, 2] bcast_S4x2048_S4x1x2048_0_2 (m ((c : Thread nD τ).loc main_arg3)) := by
  rw [← W2_args m ρ c main_arg3 (by decide)]
  show StableHlo.after hostOps0_2 (W2 m ρ c) _ = _
  generalize W2 m ρ c = U
  after_results <;> rfl

end Cert.ProjIdeal.Value
end
-- ==== Proof.ProjRef.lean ====
module

public import proofs.«01_k».proof.Proof.ProjRegions
public import proofs.«01_k».proof.Proof.ProjHost
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.Value

open Cert.ProjRefIdeal Cert.ProjRefIdeal.Gen Cert.ProjRefIdeal.Read

variable (x0 : FVec Ideal S4x4096x2048 .f32) (x1 : FVec Ideal S2048 .f32) (x2 x3 : FVec Ideal S4x2048 .f32) (x4 : FVec Ideal S2x2048x15432 .f32)

/-- The normalised rows, as the kernel's host code hands them to its first region. -/
abbrev rows : FVec Ideal Cert.ProjIdeal.S16384x2048 .bf16 :=
  Cert.ProjIdeal.Value.norm (shapeCast _ x0 Cert.ProjIdeal.Gen.shapeCasts_S4x4096x2048_S16384x2048) (shapeCast _ x1 Cert.ProjIdeal.Gen.shapeCasts_S2048_S1x2048)
    (broadcastInDim Cert.ProjIdeal.S4x1x2048 ![0, 2] Cert.ProjIdeal.Gen.bcast_S4x2048_S4x1x2048_0_2 x2)
    (broadcastInDim Cert.ProjIdeal.S4x1x2048 ![0, 2] Cert.ProjIdeal.Gen.bcast_S4x2048_S4x1x2048_0_2 x3)

/-- The reference's whole projection: the normalised rows times the first of the stacked matrices. -/
theorem proj_apply (r : Fin 16384) (j : Fin 15432) :
    val_main_v24 (F := Ideal) x0 x1 x2 x3 x4 (ix2 r j) = ∑ k : Fin 2048, (rows x0 x1 x2 x3 (ix2 r k) * x4 (ix3 0 k j) : EReal) := by
  unfold rows Cert.ProjIdeal.Value.norm Cert.ProjIdeal.Value.seqOf
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]

open Cert.ProjIdeal.Value in
/-- The reference's main result, column by column: three ranges of the whole projection's columns, the columns that the packed main matrix takes. -/
theorem main_eq' : val_main_v33 (F := Ideal) x0 x1 x2 x3 x4 = mm (rows x0 x1 x2 x3) (wMain x4) := by
  funext i
  obtain ⟨r, j, rfl⟩ : ∃ r j, i = ix2 r j := ⟨i 0, i 1, eq_ix2 i⟩
  unfold mm
  have hj := j.isLt
  pointwise [val_main_v33, val_main_v28, val_main_v27, val_main_v26, val_main_v25]
  have hc : j.val < 2048 ∧ (colMain j).val = j.val ∨ 2048 ≤ j.val ∧ j.val < 6144 ∧ (colMain j).val = j.val + 72
      ∨ 6144 ≤ j.val ∧ (colMain j).val = j.val + 1096 := by
    unfold colMain; simp only []; split_ifs <;> omega
  have key : ∀ (n : ℕ) (h : n < 15432), n = (colMain j).val → val_main_v24 (F := Ideal) x0 x1 x2 x3 x4 (ix2 r ⟨n, h⟩)
      = ∑ k : Fin 2048, (rows x0 x1 x2 x3 (ix2 r k) * wMain x4 (ix3 0 k j) : EReal) := by
    intro n h e; subst e
    rw [proj_apply]
    exact Finset.sum_congr rfl fun k _ => by rw [wMain_apply]
  iterate 2 refine dite_key (fun h => key _ _ (by omega)) fun h => ?_
  exact key _ _ (by omega)

open Cert.ProjIdeal.Value in
/-- The reference's side result: two ranges of the whole projection's columns and the columns that stay zero. -/
theorem side_eq' : val_main_v32 (F := Ideal) x0 x1 x2 x3 x4 = mmSide (rows x0 x1 x2 x3) (wSidePad x4) := by
  funext i
  obtain ⟨r, j, rfl⟩ : ∃ r j, i = ix2 r j := ⟨i 0, i 1, eq_ix2 i⟩
  unfold mmSide
  have hj := j.isLt
  pointwise [val_main_v32, val_main_v31, val_main_v30, val_main_v29, val_main_cst_3]
  have key : ∀ (hlt : j.val < 1096) (n : ℕ) (h : n < 15432), n = (colSide ⟨j.val, hlt⟩).val → val_main_v24 (F := Ideal) x0 x1 x2 x3 x4 (ix2 r ⟨n, h⟩)
      = ∑ k : Fin 2048, (rows x0 x1 x2 x3 (ix2 r k) * wSidePad x4 (ix3 0 k j) : EReal) := by
    intro hlt n h e; subst e
    rw [proj_apply]
    exact Finset.sum_congr rfl fun k _ => by rw [wSidePad_apply, dif_pos hlt]
  have hc : ∀ hlt : j.val < 1096, j.val < 1024 ∧ (colSide ⟨j.val, hlt⟩).val = j.val + 6216 ∨ 1024 ≤ j.val ∧ (colSide ⟨j.val, hlt⟩).val = j.val + 1024 := by
    intro hlt; unfold colSide; simp only []; split_ifs <;> omega
  refine dite_key (fun h => key (by omega) _ _ (by have := hc (by omega); omega)) fun h => ?_
  refine dite_key (fun h' => key (by omega) _ _ (by have := hc (by omega); omega)) fun h' => ?_
  symm
  refine Finset.sum_eq_zero fun k _ => ?_
  rw [wSidePad_apply, dif_neg (by omega)]
  exact mul_zero _

end Cert.ProjRefIdeal.Value
end
-- ==== Proof.ProjRun.lean ====
module

public import proofs.«01_k».proof.Proof.ProjRef

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.ProjIdeal.Value

open Cert.ProjIdeal Cert.ProjIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- The run, with every buffer of the host program at what the last region leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- The normalised rows that the first region leaves, from the arguments. -/
abbrev rowsOf (c : Dev nD) : FVec Ideal S16384x2048 .bf16 :=
  Cert.ProjRefIdeal.Value.rows (m ((c : Thread nD τ).loc main_arg0)) (m ((c : Thread nD τ).loc main_arg1)) (m ((c : Thread nD τ).loc main_arg2))
    (m ((c : Thread nD τ).loc main_arg3))

theorem w4_v23 (c : Dev nD) : W4 m ρ c main_v23 = rowsOf m c :=
  (W4_arr m ρ c 4).trans ((final0 (V3 m ρ) c).trans (by rw [v19_eq, v20_eq, v21_eq, v22_eq]))

theorem w6_main (c : Dev nD) : W6 m ρ c main_v24 = mm (rowsOf m c) (wMain (m ((c : Thread nD τ).loc main_arg4))) := by
  refine (W6_of m ρ c main_v24 (by decide)).trans ((W5_arr m ρ c 2).trans ((final1 (V4 m ρ) c).trans ?_))
  rw [show V4 m ρ c main_v23 = rowsOf m c from w4_v23 m ρ c,
    show V4 m ρ c main_v12 = V3 m ρ c main_v12 from W4_of m ρ c main_v12 (by decide)]; exact congrArg _ (v12_eq m ρ c)

theorem w6_side (c : Dev nD) : W6 m ρ c main_v25 = mmSide (rowsOf m c) (wSidePad (m ((c : Thread nD τ).loc main_arg4))) := by
  refine (W6_arr m ρ c 2).trans ((final2 (V5 m ρ) c).trans ?_)
  rw [show V5 m ρ c main_v23 = rowsOf m c from (W5_of m ρ c main_v23 (by decide)).trans (w4_v23 m ρ c),
    show V5 m ρ c main_v18 = V3 m ρ c main_v18 from (W5_of m ρ c main_v18 (by decide)).trans (W4_of m ρ c main_v18 (by decide)), v18_eq]

/-- The kernel's run: both results as functions of the arguments, and the arguments as launched. -/
theorem run : θ_run defs (onTc (τ := τ) (main (F := Ideal))) ⟨m, fun _ => 0, ρ⟩ (fun r => ∀ c : Dev nD,
      r.2.mem ((c.tc : Thread nD τ).loc main_v24) = mm (rowsOf m c) (wMain (m ((c : Thread nD τ).loc main_arg4)))
      ∧ r.2.mem ((c.tc : Thread nD τ).loc main_v25) = mmSide (rowsOf m c) (wSidePad (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v24 (by decide))).trans (w6_main m ρ c), (h c _ (mem_uc main_v25 (by decide))).trans (w6_side m ρ c),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c),
     (h c _ (mem_uc main_arg4 (by decide))).trans (W6_main_arg4 m ρ c)⟩) (run_all m ρ)

end Cert.ProjIdeal.Value
end
-- ==== Proof.ProjClaim.lean ====
module

public import proofs.«01_k».proof.Defs
public import proofs.«01_k».proof.Proof.ProjRun
public import proofs.«01_k».proof.Proof.Gen.Proj.Frame
public import proofs.«01_k».proof.Proof.Gen.ProjRefIdeal.Run

@[expose] public section

set_option maxRecDepth 16384

noncomputable section

open Idealize.ShloMosaic Idealize.ShloMosaic.TcCoe Idealize.SL.Sem

namespace Cert.Proof

/-- The projection's reference ends with the arguments unchanged and every counter at zero. -/
theorem projRef_quiescent : Cert.quiescent_ProjRefIdeal (hProjRefIdeal := Cert.ProjRefIdeal.Gen.facts) := fun m ρ _ =>
  (θ_run _ _ _).mono (fun r h => ⟨fun c => (h c).2.2, Idealize.ShloMosaic.sem_eq_zero_of_no_sems (by decide) r.2⟩)
    (Cert.ProjRefIdeal.Value.run (F := Ideal) m ρ)

/-- Both projections: the kernel's two results are the reference's. -/
theorem proj_algebraic : Cert.algebraic_ProjIdeal_ProjRefIdeal (hProjIdeal := Cert.ProjIdeal.Gen.facts) (hProjRefIdeal := Cert.ProjRefIdeal.Gen.facts) := by
  intro m g m' g' _ hm
  refine ⟨_, _, Cert.ProjIdeal.Value.run m g, ?_⟩
  refine (θ_run _ _ _).mono (fun r h c => ?_) (Cert.ProjRefIdeal.Value.run (F := Ideal) m' g')
  obtain ⟨h0, h1, hargs⟩ := h c
  obtain ⟨e0, e1, e2, e3, e4⟩ := hm c
  refine ⟨h0.trans ?_, h1.trans ?_, hargs⟩
  · rw [Cert.ProjRefIdeal.Read.val_main_v33_eq, Cert.ProjRefIdeal.Value.main_eq', e0, e1, e2, e3, e4]
  · rw [Cert.ProjRefIdeal.Read.val_main_v32_eq, Cert.ProjRefIdeal.Value.side_eq', e0, e1, e2, e3, e4]

end Cert.Proof
end
-- ==== Proof.ModRun.lean ====
module

public import proofs.«01_k».proof.Proof.Gen.ModIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.ModIdeal.Value

open Cert.ModIdeal Cert.ModIdeal.Gen

variable (m : (ℓ : Loc nD τ sig) → Buf (Elt Ideal) ℓ) (ρ : Dev nD → PrngReg)

theorem idx0 : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- A number times its sigmoid. -/
def silu (x : EReal) : EReal := x * Ideal.div 1 (1 + Ideal.exp (0 - x))

/-- For each layer, the rows' silu times the layer's matrix, plus the layer's bias. -/
def mods (C : FVec Ideal S8x2048 .f32) (W : FVec Ideal S2x2048x12288 .f32) (B : FVec Ideal S2x1x12288 .f32) : FVec Ideal S2x8x12288 .f32 :=
  fun i => ((∑ k : Fin 2048, (silu (C (ix2 (i 1) k)) * W (ix3 (i 0) k (i 2)) : EReal)) + B (ix3 (i 0) 0 (i 2)) : EReal)

/-- What the region leaves in its output array, from the arrays it is entered with. -/
theorem final0 (c : Dev nD) : (dats m 0 c).arrAt 3 cfg0.N = mods (V m c main_v0) (V m c main_arg1) (V m c main_v1) := by
  refine (dats m 0 c).arrAt_eq_of_covers 3 _ (by decide +kernel) fun t _ y => ?_
  blk_simp
  rw [after0_3]; frame_out
  unfold mods silu
  pointwise [k0_pay1]
  blk_point [iblk, idx0 t]

/-- The conditioning rows with four zero rows below. -/
theorem v0_eq (c : Dev nD) : V m c main_v0 = pad S8x2048 ![0, 0] ![4, 0] ![0, 0] (m ((c : Thread nD τ).loc main_arg0))
    (sitofp (F := Ideal) .f32 (constantI S_ 32 0#32)) pads_S4x2048_S8x2048_040_000 h_S_ := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

theorem v1_eq (c : Dev nD) : V m c main_v1 = shapeCast S2x1x12288 (m ((c : Thread nD τ).loc main_arg2)) shapeCasts_S2x12288_S2x1x12288 := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

/-- The four rows kept of the region's eight, from the arguments. -/
def kept (C : FVec Ideal S4x2048 .f32) (W : FVec Ideal S2x2048x12288 .f32) (B : FVec Ideal S2x12288 .f32) : FVec Ideal S2x4x12288 .f32 :=
  extractStridedSlice S2x4x12288 ![0, 0, 0] (mods (pad S8x2048 ![0, 0] ![4, 0] ![0, 0] C (sitofp (F := Ideal) .f32 (constantI S_ 32 0#32)) pads_S4x2048_S8x2048_040_000 h_S_)
    W (shapeCast S2x1x12288 B shapeCasts_S2x12288_S2x1x12288)) slices_S2x8x12288_S2x4x12288_0_0_0

theorem v3_eq (c : Dev nD) : Pipeline.afterTail₀ cfgs (dats m) 0 (V0 m) [hostOps1] c main_v3
    = kept (m ((c : Thread nD τ).loc main_arg0)) (m ((c : Thread nD τ).loc main_arg1)) (m ((c : Thread nD τ).loc main_arg2)) := by
  have h : Pipeline.withArrays (cfgs 0).spec c (V0 m c) (fun w => (dats m 0 c).arrAt w (cfgs 0).N) (Proc.devRef .tc main_v2)
      = mods (V m c main_v0) (V m c main_arg1) (V m c main_v1) :=
    (Pipeline.withArrays_arr (cfgs 0).spec launch0.win.arr_inj c (V0 m c) (fun w => (dats m 0 c).arrAt w (cfgs 0).N) 3).trans (final0 m c)
  unfold kept Pipeline.afterTail₀
  rw [← v0_eq m c, ← v1_eq m c, ← V_main_arg1 m c, ← h]
  generalize Pipeline.withArrays (cfgs 0).spec c (V0 m c) (fun w => (dats m 0 c).arrAt w (cfgs 0).N) = U
  simp only [hostOps1, List.flatten_cons, List.flatten_nil, List.append_nil, List.cons_append, List.nil_append]
  after_results <;> rfl

/-- The kernel's run: the result as a function of the arguments, and the arguments as launched. -/
theorem run : θ_run defs (onTc (τ := τ) (main (F := Ideal))) ⟨m, fun _ => 0, ρ⟩ (fun r => ∀ c : Dev nD,
      r.2.mem ((c.tc : Thread nD τ).loc main_v3)
        = kept (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v3 (Pipeline.mem_restRefs_of main_v3 (by decide) (by decide))).trans (v3_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.ModIdeal.Value
end
-- ==== Proof.ModClaim.lean ====
module

public import proofs.«01_k».proof.Defs
public import proofs.«01_k».proof.Proof.ModRun
public import proofs.«01_k».proof.Proof.Gen.Mod.Frame
public import proofs.«01_k».proof.Proof.Gen.ModRefIdeal.Run
public import proofs.«01_k».proof.Proof.Gen.ModRefIdeal.Read

@[expose] public section

set_option maxRecDepth 16384

noncomputable section

open Idealize.ShloMosaic Idealize.ShloMosaic.TcCoe Idealize.SL.Sem

namespace Cert.ModRefIdeal.Value

open Cert.ModRefIdeal Cert.ModRefIdeal.Gen Cert.ModRefIdeal.Read

variable (x0 : FVec Ideal S4x2048 .f32) (x1 : FVec Ideal S2x2048x12288 .f32) (x2 : FVec Ideal S2x12288 .f32)

open Cert.ModIdeal.Value in
/-- One entry of the kernel's result. -/
theorem kept_apply (l : Fin 2) (b : Fin 4) (j : Fin 12288) :
    kept x0 x1 x2 (ix3 l b j) = (∑ k : Fin 2048, (silu (x0 (ix2 b k)) * x1 (ix3 l k j) : EReal)) + x2 (ix2 l j) := by
  have hb := b.isLt
  unfold kept mods silu
  pointwise

open Cert.ModIdeal.Value in
/-- The first layer's entries of the reference. -/
theorem first_apply (b : Fin 4) (j : Fin 12288) :
    val_main_v8 (F := Ideal) x0 x1 x2 (ix2 b j) = (∑ k : Fin 2048, (silu (x0 (ix2 b k)) * x1 (ix3 0 k j) : EReal)) + x2 (ix2 0 j) := by
  unfold silu
  pointwise [val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]
  simp only [zero_sub]

open Cert.ModIdeal.Value in
/-- The second layer's entries of the reference. -/
theorem second_apply (b : Fin 4) (j : Fin 12288) :
    val_main_v16 (F := Ideal) x0 x1 x2 (ix2 b j) = (∑ k : Fin 2048, (silu (x0 (ix2 b k)) * x1 (ix3 1 k j) : EReal)) + x2 (ix2 1 j) := by
  unfold silu
  pointwise [val_main_v16, val_main_v15, val_main_v14, val_main_v13, val_main_v12, val_main_v11, val_main_v10, val_main_v9, val_main_v0,
    val_main_call0_v5, val_main_call0_v4, val_main_call0_v3, val_main_call0_v2, val_main_call0_v1, val_main_call0_v0, val_main_call0_cst, val_main_call0_cst_0]
  simp only [zero_sub]

/-- The reference stacks the two layers; the kernel's result has the same entries. -/
theorem mods_eq' : val_main_v19 (F := Ideal) x0 x1 x2 = Cert.ModIdeal.Value.kept x0 x1 x2 := by
  funext i
  obtain ⟨l, b, j, rfl⟩ : ∃ l b j, i = ix3 l b j := ⟨i 0, i 1, i 2, eq_ix3 i⟩
  rw [kept_apply]
  fin_cases l
  · refine Eq.trans ?_ (first_apply x0 x1 x2 b j)
    pointwise [val_main_v19, val_main_v18, val_main_v17]
  · refine Eq.trans ?_ (second_apply x0 x1 x2 b j)
    pointwise [val_main_v19, val_main_v18, val_main_v17]

end Cert.ModRefIdeal.Value

namespace Cert.Proof

/-- The modulation's reference ends with the arguments unchanged and every counter at zero. -/
theorem modRef_quiescent : Cert.quiescent_ModRefIdeal (hModRefIdeal := Cert.ModRefIdeal.Gen.facts) := fun m ρ _ =>
  (θ_run _ _ _).mono (fun r h => ⟨fun c => (h c).2, Idealize.ShloMosaic.sem_eq_zero_of_no_sems (by decide) r.2⟩)
    (Cert.ModRefIdeal.Value.run (F := Ideal) m ρ)

/-- The modulation: the kernel's result is the reference's. -/
theorem mod_algebraic : Cert.algebraic_ModIdeal_ModRefIdeal (hModIdeal := Cert.ModIdeal.Gen.facts) (hModRefIdeal := Cert.ModRefIdeal.Gen.facts) := by
  intro m g m' g' _ hm
  refine ⟨_, Cert.ModIdeal.Value.run m g, ?_⟩
  refine (θ_run _ _ _).mono (fun r h c => ?_) (Cert.ModRefIdeal.Value.run (F := Ideal) m' g')
  obtain ⟨h0, hargs⟩ := h c
  obtain ⟨e0, e1, e2⟩ := hm c
  refine ⟨h0.trans ?_, hargs⟩
  rw [Cert.ModRefIdeal.Read.val_main_v19_eq, Cert.ModRefIdeal.Value.mods_eq', e0, e1, e2]

end Cert.Proof
end
-- ==== Proof.NextRegions.lean ====
module

public import proofs.«01_k».proof.Proof.Gen.NextIdeal.Frame
public import Idealize.ShloMosaic.Lib.Pipeline.ValueKit
public import Idealize.ShloMosaic.Lib.Pointwise.Tactic

@[expose] public section

set_option maxRecDepth 16384

noncomputable section

open Idealize.ShloMosaic Idealize.ShloMosaic.TcCoe Idealize.SL.Sem
open Idealize.ShloMosaic.Pipeline (Dat)

namespace Cert.NextIdeal.Value

open Cert.NextIdeal Cert.NextIdeal.Gen

variable (V : (c : Dev nD) → (b : Ref sig .tc) → Buf (Elt Ideal) ((c : Thread nD τ).loc b))

/-! ## The first layer's MLP and the second layer's input norm, row by row -/

/-- Row `r` of an array of rows belongs to sequence `r / 4096`. -/
def seqOf (r : Fin 16384) : Fin 4 := ⟨r.val / 4096, by have := r.isLt; omega⟩

/-- The root-mean-square norm of each row, weighted by `g`, then the sequence's scale and shift. -/
def norm (X : FVec Ideal S16384x2048 .f32) (g : FVec Ideal S1x2048 .f32) (sh sc : FVec Ideal S4x1x2048 .f32) :
    FVec Ideal S16384x2048 .bf16 :=
  fun i => (X i * Ideal.rsqrt (Ideal.div (∑ k : Fin 2048, (X (ix2 (i 0) k) * X (ix2 (i 0) k) : EReal)) (Ideal.ofBits FTy.f32 1157627904#32)
      + Ideal.ofBits FTy.f32 897988541#32) * g (ix2 0 (i 1)) * (1 + sc (ix3 (seqOf (i 0)) 0 (i 1))) + sh (ix3 (seqOf (i 0)) 0 (i 1)) : EReal)

/-- The first product of the MLP and its squared positive part. -/
def up (H : FVec Ideal S16384x2048 .bf16) (W : FVec Ideal S2x2048x8192 .bf16) : FVec Ideal S16384x8192 .bf16 :=
  fun i => (max (∑ k : Fin 2048, (H (ix2 (i 0) k) * W (ix3 0 k (i 1)) : EReal)) 0
    * max (∑ k : Fin 2048, (H (ix2 (i 0) k) * W (ix3 0 k (i 1)) : EReal)) 0 : EReal)

/-- The residual stream after the MLP. -/
def down (A : FVec Ideal S16384x8192 .bf16) (W : FVec Ideal S2x8192x2048 .bf16) (X : FVec Ideal S16384x2048 .f32)
    (g2 : FVec Ideal S4x1x2048 .f32) : FVec Ideal S16384x2048 .f32 :=
  fun i => (X i + g2 (ix3 (seqOf (i 0)) 0 (i 1)) * (∑ k : Fin 8192, (A (ix2 (i 0) k) * W (ix3 0 k (i 1)) : EReal)) : EReal)

/-! ## What the regions leave -/

theorem idx0 : ∀ t : Fin cfg0.N, win0_0.index t = ![t.val, 0] ∧ win0_1.index t = ![0, 0, 0] ∧ win0_2.index t = ![t.val, 0] :=
  (by decide +kernel : ∀ t : Fin grid0.N, _)

theorem idx1 : ∀ t : Fin cfg1.N, win1_0.index t = ![t.val, 0] ∧ win1_1.index t = ![0, 0, 0] ∧ win1_2.index t = ![t.val, 0]
    ∧ win1_3.index t = ![t.val / 16, 0, 0] ∧ win1_4.index t = ![0, 0] ∧ win1_5.index t = ![t.val / 16, 0, 0]
    ∧ win1_6.index t = ![t.val / 16, 0, 0] ∧ win1_7.index t = ![t.val, 0] ∧ win1_8.index t = ![t.val, 0] :=
  (by decide +kernel : ∀ t : Fin grid1.N, _)

theorem final0 (c : Dev nD) : (dat0 V c).arrAt 2 cfg0.N = up (V c main_arg0) (V c main_v0) := by
  refine (dat0 V c).arrAt_eq_of_covers 2 _ (by decide +kernel) fun t _ y => ?_
  blk_simp
  rw [after0_2]; frame_out
  unfold up
  pointwise [k0_pay1]
  blk_point [iblk0, idx0 t]

theorem final1_7 (c : Dev nD) : (dat1 V c).arrAt 7 cfg1.N = down (V c main_v2) (V c main_v1) (V c main_arg1) (V c main_v3) := by
  refine (dat1 V c).arrAt_eq_of_covers 7 _ (by decide +kernel) fun t _ y => ?_
  blk_simp
  rw [after1_7]; frame_out
  unfold down seqOf
  pointwise [k1_pay2]
  blk_point [iblk1, idx1 t]

theorem final1_8 (c : Dev nD) : (dat1 V c).arrAt 8 cfg1.N
    = norm (down (V c main_v2) (V c main_v1) (V c main_arg1) (V c main_v3)) (V c main_v4) (V c main_v5) (V c main_v6) := by
  refine (dat1 V c).arrAt_eq_of_covers 8 _ (by decide +kernel) fun t _ y => ?_
  blk_simp
  rw [after1_8]; frame_out
  unfold norm down seqOf
  pointwise [k1_pay1, k1_pay3, k1_pay2]
  blk_point [iblk1, idx1 t]

end Cert.NextIdeal.Value
end
-- ==== Proof.NextRef.lean ====
module

public import proofs.«01_k».proof.Proof.NextRegions
public import proofs.«01_k».proof.Proof.Gen.NextRefIdeal.Read

@[expose] public section

set_option maxRecDepth 16384

noncomputable section

open Idealize.ShloMosaic Idealize.ShloMosaic.TcCoe Idealize.SL.Sem

namespace Cert.NextRefIdeal.Value

open Cert.NextRefIdeal Cert.NextRefIdeal.Gen Cert.NextRefIdeal.Read Cert.NextIdeal.Value

variable (x0 : FVec Ideal S16384x2048 .bf16) (x1 : FVec Ideal S16384x2048 .f32) (x2 : FVec Ideal S2x2048x8192 .f32) (x3 : FVec Ideal S2x8192x2048 .f32)
  (x4 : FVec Ideal S4x2048 .f32) (x5 : FVec Ideal S2048 .f32) (x6 x7 : FVec Ideal S4x2048 .f32)

/-- The row of the flattened arrays that holds position `s` of sequence `b`. -/
abbrev flat (b : Fin 4) (s : Fin 4096) : Fin 16384 := ⟨b.val * 4096 + s.val, by have := b.isLt; have := s.isLt; omega⟩

theorem seqOf_flat (b : Fin 4) (s : Fin 4096) : seqOf (flat b s) = b := by
  have := b.isLt; have := s.isLt
  exact Fin.ext (by simp only [seqOf, flat]; omega)

theorem flat_row (r : Fin 16384) (h1 : r.val / 4096 < 4) (h2 : r.val % 4096 < 4096) : flat ⟨r.val / 4096, h1⟩ ⟨r.val % 4096, h2⟩ = r :=
  Fin.ext (by simp only [flat]; omega)

/-- The host code's shapes of the vectors the regions read. -/
abbrev wide (x : FVec Ideal S4x2048 .f32) : FVec Ideal S4x1x2048 .f32 := broadcastInDim S4x1x2048 ![0, 2] Cert.NextIdeal.Gen.bcast_S4x2048_S4x1x2048_0_2 x
abbrev line (x : FVec Ideal S2048 .f32) : FVec Ideal Cert.NextIdeal.S1x2048 .f32 := shapeCast _ x Cert.NextIdeal.Gen.shapeCasts_S2048_S1x2048

/-- The residual stream after the first layer, and the second layer's normalised input, from the arguments. -/
abbrev stream : FVec Ideal S16384x2048 .f32 := down (up x0 x2) x3 x1 (wide x4)
abbrev input : FVec Ideal S16384x2048 .bf16 := Cert.NextIdeal.Value.norm (stream x0 x1 x2 x3 x4) (line x5) (wide x6) (wide x7)

theorem up_apply (b : Fin 4) (s : Fin 4096) (j : Fin 8192) :
    val_main_v10 (F := Ideal) x0 x2 (ix3 b s j) = up x0 x2 (ix2 (flat b s) j) := by
  unfold up
  pointwise [val_main_v10, val_main_v9, val_main_v8, val_main_v5, val_main_v4, val_main_v2, val_main_v1, val_main_call0_cst, val_main_call0_v0]

theorem stream_apply (b : Fin 4) (s : Fin 4096) (j : Fin 2048) :
    val_main_v14 (F := Ideal) x0 x1 x2 x3 x4 (ix3 b s j) = stream x0 x1 x2 x3 x4 (ix2 (flat b s) j) := by
  unfold stream down wide
  pointwise [val_main_v14, val_main_v13, val_main_v12, val_main_v11, val_main_v7, val_main_v6, val_main_v3, val_main_v0]
  simp only [seqOf_flat, up_apply]

theorem input_apply (b : Fin 4) (s : Fin 4096) (j : Fin 2048) :
    val_main_v35 (F := Ideal) x0 x1 x2 x3 x4 x5 x6 x7 (ix3 b s j) = input x0 x1 x2 x3 x4 x5 x6 x7 (ix2 (flat b s) j) := by
  unfold input Cert.NextIdeal.Value.norm wide line
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16,
    val_main_v15, val_main_cst, val_main_cst_0, val_main_cst_1, val_main_cst_2]
  simp only [seqOf_flat, stream_apply]

theorem stream_eq' : val_main_v36 (F := Ideal) x0 x1 x2 x3 x4 = stream x0 x1 x2 x3 x4 := by
  funext i
  obtain ⟨r, j, rfl⟩ : ∃ r j, i = ix2 r j := ⟨i 0, i 1, eq_ix2 i⟩
  have hr := r.isLt
  refine Eq.trans ?_ (congrArg (fun q => stream x0 x1 x2 x3 x4 (ix2 q j)) (flat_row r (by omega) (by omega)))
  refine Eq.trans ?_ (stream_apply x0 x1 x2 x3 x4 _ _ j)
  pointwise [val_main_v36]

theorem input_eq' : val_main_v38 (F := Ideal) x0 x1 x2 x3 x4 x5 x6 x7 = input x0 x1 x2 x3 x4 x5 x6 x7 := by
  funext i
  obtain ⟨r, j, rfl⟩ : ∃ r j, i = ix2 r j := ⟨i 0, i 1, eq_ix2 i⟩
  have hr := r.isLt
  refine Eq.trans ?_ (congrArg (fun q => input x0 x1 x2 x3 x4 x5 x6 x7 (ix2 q j)) (flat_row r (by omega) (by omega)))
  refine Eq.trans ?_ (input_apply x0 x1 x2 x3 x4 x5 x6 x7 _ _ j)
  pointwise [val_main_v38, val_main_v37]

end Cert.NextRefIdeal.Value
end
-- ==== Proof.NextRun.lean ====
module

public import proofs.«01_k».proof.Proof.NextRef

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.NextIdeal.Value

open Cert.NextIdeal Cert.NextIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- The run, with every buffer of the host program at what the last region leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-! ## The arrays that the host code makes, from the arguments -/

theorem v0_eq (c : Dev nD) : V1 m ρ c main_v0 = truncf (F := Ideal) (s := S2x2048x8192) (φ := .f32) .bf16 (m ((c : Thread nD τ).loc main_arg2)) bitsLt_bf16_f32 := by
  show StableHlo.after hostOps0 (W0 m ρ c) _ = _
  after_results_simp

theorem v1_eq (c : Dev nD) : V1 m ρ c main_v1 = truncf (F := Ideal) (s := S2x8192x2048) (φ := .f32) .bf16 (m ((c : Thread nD τ).loc main_arg3)) bitsLt_bf16_f32 := by
  show StableHlo.after hostOps0 (W0 m ρ c) _ = _
  after_results_simp

theorem v3_eq (c : Dev nD) : V3 m ρ c main_v3 = broadcastInDim S4x1x2048 ![0, 2] bcast_S4x2048_S4x1x2048_0_2 (m ((c : Thread nD τ).loc main_arg4)) := by
  rw [← W2_args m ρ c main_arg4 (by decide)]
  show StableHlo.after hostOps1 (W2 m ρ c) _ = _
  generalize W2 m ρ c = U
  after_results <;> rfl

theorem v4_eq (c : Dev nD) : V3 m ρ c main_v4 = shapeCast S1x2048 (m ((c : Thread nD τ).loc main_arg5)) shapeCasts_S2048_S1x2048 := by
  rw [← W2_args m ρ c main_arg5 (by decide)]
  show StableHlo.after hostOps1 (W2 m ρ c) _ = _
  generalize W2 m ρ c = U
  after_results <;> rfl

theorem v5_eq (c : Dev nD) : V3 m ρ c main_v5 = broadcastInDim S4x1x2048 ![0, 2] bcast_S4x2048_S4x1x2048_0_2 (m ((c : Thread nD τ).loc main_arg6)) := by
  rw [← W2_args m ρ c main_arg6 (by decide)]
  show StableHlo.after hostOps1 (W2 m ρ c) _ = _
  generalize W2 m ρ c = U
  after_results <;> rfl

theorem v6_eq (c : Dev nD) : V3 m ρ c main_v6 = broadcastInDim S4x1x2048 ![0, 2] bcast_S4x2048_S4x1x2048_0_2 (m ((c : Thread nD τ).loc main_arg7)) := by
  rw [← W2_args m ρ c main_arg7 (by decide)]
  show StableHlo.after hostOps1 (W2 m ρ c) _ = _
  generalize W2 m ρ c = U
  after_results <;> rfl

/-- The two results, from the arguments. -/
abbrev streamArgs (c : Dev nD) : FVec Ideal S16384x2048 .f32 :=
  Cert.NextRefIdeal.Value.stream (m ((c : Thread nD τ).loc main_arg0)) (m ((c : Thread nD τ).loc main_arg1)) (m ((c : Thread nD τ).loc main_arg2)) (m ((c : Thread nD τ).loc main_arg3)) (m ((c : Thread nD τ).loc main_arg4))
abbrev inputArgs (c : Dev nD) : FVec Ideal S16384x2048 .bf16 :=
  Cert.NextRefIdeal.Value.input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem w2 (c : Dev nD) : W2 m ρ c main_v2 = up (m ((c : Thread nD τ).loc main_arg0)) (m ((c : Thread nD τ).loc main_arg2)) := by
  refine (W2_arr m ρ c 2).trans ((final0 (V1 m ρ) c).trans ?_)
  rw [show V1 m ρ c main_arg0 = _ from W1_args m ρ c main_arg0 (by decide), v0_eq]
  rfl

theorem down_args (c : Dev nD) : down (V3 m ρ c main_v2) (V3 m ρ c main_v1) (V3 m ρ c main_arg1) (V3 m ρ c main_v3) = streamArgs m c := by
  rw [show V3 m ρ c main_v2 = _ from (W3_of m ρ c main_v2 (by decide)).trans (w2 m ρ c),
    show V3 m ρ c main_v1 = V1 m ρ c main_v1 from (W3_of m ρ c main_v1 (by decide)).trans (W2_of m ρ c main_v1 (by decide)),
    show V3 m ρ c main_arg1 = _ from W3_args m ρ c main_arg1 (by decide), v1_eq, v3_eq]
  rfl

theorem w4_0 (c : Dev nD) : W4 m ρ c main_v7_0 = streamArgs m c :=
  (W4_arr m ρ c 7).trans ((final1_7 (V3 m ρ) c).trans (down_args m ρ c))

theorem w4_1 (c : Dev nD) : W4 m ρ c main_v7_1 = inputArgs m c :=
  (W4_arr m ρ c 8).trans ((final1_8 (V3 m ρ) c).trans (by rw [down_args, v4_eq, v5_eq, v6_eq]))

/-- The kernel's run: both results as functions of the arguments, and the arguments as launched. -/
theorem run : θ_run defs (onTc (τ := τ) (main (F := Ideal))) ⟨m, fun _ => 0, ρ⟩ (fun r => ∀ c : Dev nD,
      r.2.mem ((c.tc : Thread nD τ).loc main_v7_0) = streamArgs m c
      ∧ r.2.mem ((c.tc : Thread nD τ).loc main_v7_1) = inputArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v7_0 (by decide))).trans (w4_0 m ρ c), (h c _ (mem_uc main_v7_1 (by decide))).trans (w4_1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.NextIdeal.Value
end
-- ==== Proof.NextClaim.lean ====
module

public import proofs.«01_k».proof.Defs
public import proofs.«01_k».proof.Proof.NextRun
public import proofs.«01_k».proof.Proof.Gen.Next.Frame
public import proofs.«01_k».proof.Proof.Gen.NextRefIdeal.Run

@[expose] public section

set_option maxRecDepth 16384

noncomputable section

open Idealize.ShloMosaic Idealize.ShloMosaic.TcCoe Idealize.SL.Sem

namespace Cert.Proof

/-- The reference of the first layer's end ends with the arguments unchanged and every counter at zero. -/
theorem nextRef_quiescent : Cert.quiescent_NextRefIdeal (hNextRefIdeal := Cert.NextRefIdeal.Gen.facts) := fun m ρ _ =>
  (θ_run _ _ _).mono (fun r h => ⟨fun c => (h c).2.2, Idealize.ShloMosaic.sem_eq_zero_of_no_sems (by decide) r.2⟩)
    (Cert.NextRefIdeal.Value.run (F := Ideal) m ρ)

/-- The first layer's end: the kernel's two results are the reference's. -/
theorem next_algebraic : Cert.algebraic_NextIdeal_NextRefIdeal (hNextIdeal := Cert.NextIdeal.Gen.facts) (hNextRefIdeal := Cert.NextRefIdeal.Gen.facts) := by
  intro m g m' g' _ hm
  refine ⟨_, _, Cert.NextIdeal.Value.run m g, ?_⟩
  refine (θ_run _ _ _).mono (fun r h c => ?_) (Cert.NextRefIdeal.Value.run (F := Ideal) m' g')
  obtain ⟨h0, h1, hargs⟩ := h c
  obtain ⟨e0, e1, e2, e3, e4, e5, e6, e7⟩ := hm c
  refine ⟨h0.trans ?_, h1.trans ?_, hargs⟩
  · rw [Cert.NextRefIdeal.Read.val_main_v36_eq, Cert.NextRefIdeal.Value.stream_eq', e0, e1, e2, e3, e4]
  · rw [Cert.NextRefIdeal.Read.val_main_v38_eq, Cert.NextRefIdeal.Value.input_eq', e0, e1, e2, e3, e4, e5, e6, e7]

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModRefIdeal.Run
public import proofs.«01_k».proof.Proof.Gen.ModRefIdeal.Read
public import proofs.«01_k».proof.Proof.Gen.Next
public import proofs.«01_k».proof.Proof.Gen.Next.Skeleton
public import proofs.«01_k».proof.Proof.Gen.Next.Launch
public import proofs.«01_k».proof.Proof.Gen.Next.Points
public import proofs.«01_k».proof.Proof.Gen.Next.Frame
public import proofs.«01_k».proof.Proof.Gen.NextIdeal
public import proofs.«01_k».proof.Proof.Gen.NextIdeal.Skeleton
public import proofs.«01_k».proof.Proof.Gen.NextIdeal.Launch
public import proofs.«01_k».proof.Proof.Gen.NextIdeal.Points
public import proofs.«01_k».proof.Proof.Gen.NextIdeal.Frame
public import proofs.«01_k».proof.Proof.Gen.NextRefIdeal
public import proofs.«01_k».proof.Proof.Gen.NextRefIdeal.Run
public import proofs.«01_k».proof.Proof.Gen.NextRefIdeal.Read
public import proofs.«01_k».proof.Proof.MergeClaim
public import proofs.«01_k».proof.Proof.ProjClaim
public import proofs.«01_k».proof.Proof.ModClaim
public import proofs.«01_k».proof.Proof.NextClaim
public import Idealize.ShloMosaic.Adequacy
public import Idealize.ShloMosaic.Init

@[expose] public section

noncomputable section

namespace Cert.Proof

open Idealize.ShloMosaic Idealize.SL.Sem Cert.Kernel

/-- The four programs: the frames of kernels and references, and that each kernel computes what its reference computes. -/
theorem claim : Cert.Claim :=
  ⟨Cert.Kernel.Gen.facts, Cert.KernelIdeal.Gen.facts, Cert.ReferenceIdeal.Gen.facts, Cert.Proj.Gen.facts, Cert.ProjIdeal.Gen.facts,
   Cert.ProjRefIdeal.Gen.facts, Cert.Mod.Gen.facts, Cert.ModIdeal.Gen.facts, Cert.ModRefIdeal.Gen.facts,
   Cert.Next.Gen.facts, Cert.NextIdeal.Gen.facts, Cert.NextRefIdeal.Gen.facts, fun m ρ _ => Cert.Kernel.Gen.frame m ρ, fun m ρ _ => Cert.KernelIdeal.Gen.frame m ρ, ref_quiescent,
   fun m ρ _ => Cert.Proj.Gen.frame m ρ, fun m ρ _ => Cert.ProjIdeal.Gen.frame m ρ, projRef_quiescent,
   fun m ρ _ => Cert.Mod.Gen.frame m ρ, fun m ρ _ => Cert.ModIdeal.Gen.frame m ρ, modRef_quiescent,
   fun m ρ _ => Cert.Next.Gen.frame m ρ, fun m ρ _ => Cert.NextIdeal.Gen.frame m ρ, nextRef_quiescent,
   trivial, merge_algebraic, trivial, proj_algebraic, trivial, mod_algebraic, trivial, next_algebraic⟩

end Cert.Proof

end
